-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S256x128 Cert.KernelIdeal.S128x128
  ∧ IdealRules.bf16_pack.Statement Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x3584 : Shape := ⟨3, ![3, 2048, 3584]⟩
abbrev S18944x1792 : Shape := ⟨2, ![18944, 1792]⟩
abbrev S18944x16 : Shape := ⟨2, ![18944, 16]⟩
abbrev S6144x3584 : Shape := ⟨2, ![6144, 3584]⟩
abbrev S6144x18944 : Shape := ⟨2, ![6144, 18944]⟩
abbrev S512x1792 : Shape := ⟨2, ![512, 1792]⟩
abbrev S512x16 : Shape := ⟨2, ![512, 16]⟩
abbrev S768x512 : Shape := ⟨2, ![768, 512]⟩
abbrev S3584x512 : Shape := ⟨2, ![3584, 512]⟩
abbrev S512x128 : Shape := ⟨2, ![512, 128]⟩
abbrev S128x128 : Shape := ⟨2, ![128, 128]⟩
abbrev S128x128x1 : Shape := ⟨3, ![128, 128, 1]⟩
abbrev S256x128 : Shape := ⟨2, ![256, 128]⟩
abbrev S768x3584 : Shape := ⟨2, ![768, 3584]⟩

abbrev nBuf : Space → Nat
  | .hbm => 5
  | .vmem => 9
  | .smem => 0
  | _ => 0

abbrev bufTy : (tb : Table) → Fin (tcTables nBuf tb) → BufTy
  | .hbm, ⟨0, _⟩ => ⟨S3x2048x3584, .bf16⟩
  | .hbm, ⟨1, _⟩ => ⟨S18944x1792, .i8⟩
  | .hbm, ⟨2, _⟩ => ⟨S18944x16, .bf16⟩
  | .hbm, ⟨3, _⟩ => ⟨S6144x3584, .bf16⟩
  | .hbm, ⟨4, _⟩ => ⟨S6144x18944, .bf16⟩
  | .local _ .vmem, ⟨0, _⟩ => ⟨S6144x3584, .bf16⟩
  | .local _ .vmem, ⟨1, _⟩ => ⟨S512x1792, .i8⟩
  | .local _ .vmem, ⟨2, _⟩ => ⟨S512x1792, .i8⟩
  | .local _ .vmem, ⟨3, _⟩ => ⟨S512x16, .bf16⟩
  | .local _ .vmem, ⟨4, _⟩ => ⟨S512x16, .bf16⟩
  | .local _ .vmem, ⟨5, _⟩ => ⟨S768x512, .bf16⟩
  | .local _ .vmem, ⟨6, _⟩ => ⟨S768x512, .bf16⟩
  | .local _ .vmem, ⟨7, _⟩ => ⟨S3584x512, .bf16⟩
  | .local _ .vmem, ⟨8, _⟩ => ⟨S512x128, .f32⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨2, ![37, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c14_i32 : BitVec 32 := 14#32
  let v21 : BitVec 32 := Scalar.addi c0_i32_12 c14_i32
  let c1_i32 : BitVec 32 := 1#32
  ⟨c0_i32_12, v21, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c128_i32 : BitVec 32 := 128#32
  let v25 : BitVec 32 := Scalar.muli arg8 c128_i32
  v25
def k0_mult2 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c2_i32 : BitVec 32 := 2#32
  let v27 : BitVec 32 := Scalar.muli arg8 c2_i32
  let c128_i32_26 : BitVec 32 := 128#32
  let v28 : BitVec 32 := Scalar.muli v27 c128_i32_26
  v28
def k0_off1 (k0_t1 : Fin k0_t1_loop.trips) : Fin 2 → Nat :=
  let c0_27 : Index := 0#32
  let c0_i32_12 : BitVec 32 := 0#32
  let c1_i32 : BitVec 32 := 1#32
  let arg8 : BitVec 32 := Scf.iv c0_i32_12 c1_i32 k0_t1
  let c128_i32 : BitVec 32 := 128#32
  let v25 : BitVec 32 := Scalar.muli arg8 c128_i32
  let v26 : BitVec 32 := v25
  let v30 : Index := Scalar.indexCast v26
  ![0, v30.toNat]
def k0_off2 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c2_i32 : BitVec 32 := 2#32
  let v27 : BitVec 32 := Scalar.muli arg8 c2_i32
  let c128_i32_26 : BitVec 32 := 128#32
  let v28 : BitVec 32 := Scalar.muli v27 c128_i32_26
  let v29 : BitVec 32 := v28
  let v64 : Index := Scalar.indexCast v29
  let c0_34 : Index := 0#32
  ![v64.toNat, 0]
@[reducible] def k0_t2_loop : Scf.Loop 32 :=
  let c0_i32_14 : BitVec 32 := 0#32
  let c14_i32_15 : BitVec 32 := 14#32
  let v22 : BitVec 32 := Scalar.addi c0_i32_14 c14_i32_15
  let c1_i32_16 : BitVec 32 := 1#32
  ⟨c0_i32_14, v22, c1_i32_16⟩
def k0_mult3 (k0_t2 : Fin k0_t2_loop.trips) : BitVec 32 :=
  let c0_i32_14 : BitVec 32 := 0#32
  let c1_i32_16 : BitVec 32 := 1#32
  let arg8 : BitVec 32 := Scf.iv c0_i32_14 c1_i32_16 k0_t2
  let c128_i32 : BitVec 32 := 128#32
  let v25 : BitVec 32 := Scalar.muli arg8 c128_i32
  v25
def k0_mult4 (k0_t2 : Fin k0_t2_loop.trips) : BitVec 32 :=
  let c0_i32_14 : BitVec 32 := 0#32
  let c1_i32_16 : BitVec 32 := 1#32
  let arg8 : BitVec 32 := Scf.iv c0_i32_14 c1_i32_16 k0_t2
  let c2_i32 : BitVec 32 := 2#32
  let v27 : BitVec 32 := Scalar.muli arg8 c2_i32
  let c128_i32_26 : BitVec 32 := 128#32
  let v28 : BitVec 32 := Scalar.muli v27 c128_i32_26
  v28
def k0_off3 (k0_t2 : Fin k0_t2_loop.trips) : Fin 2 → Nat :=
  let c128 : Index := 128#32
  let c0_i32_14 : BitVec 32 := 0#32
  let c1_i32_16 : BitVec 32 := 1#32
  let arg8 : BitVec 32 := Scf.iv c0_i32_14 c1_i32_16 k0_t2
  let c128_i32 : BitVec 32 := 128#32
  let v25 : BitVec 32 := Scalar.muli arg8 c128_i32
  let v26 : BitVec 32 := v25
  let v30 : Index := Scalar.indexCast v26
  ![128, v30.toNat]
def k0_off4 (k0_t2 : Fin k0_t2_loop.trips) : Fin 2 → Nat :=
  let c0_i32_14 : BitVec 32 := 0#32
  let c1_i32_16 : BitVec 32 := 1#32
  let arg8 : BitVec 32 := Scf.iv c0_i32_14 c1_i32_16 k0_t2
  let c2_i32 : BitVec 32 := 2#32
  let v27 : BitVec 32 := Scalar.muli arg8 c2_i32
  let c128_i32_26 : BitVec 32 := 128#32
  let v28 : BitVec 32 := Scalar.muli v27 c128_i32_26
  let v29 : BitVec 32 := v28
  let v64 : Index := Scalar.indexCast v29
  let c128_33 : Index := 128#32
  ![v64.toNat, 128]
@[reducible] def k0_t3_loop : Scf.Loop 32 :=
  let c0_i32_18 : BitVec 32 := 0#32
  let c14_i32_19 : BitVec 32 := 14#32
  let v23 : BitVec 32 := Scalar.addi c0_i32_18 c14_i32_19
  let c1_i32_20 : BitVec 32 := 1#32
  ⟨c0_i32_18, v23, c1_i32_20⟩
def k0_mult5 (k0_t3 : Fin k0_t3_loop.trips) : BitVec 32 :=
  let c0_i32_18 : BitVec 32 := 0#32
  let c1_i32_20 : BitVec 32 := 1#32
  let arg8 : BitVec 32 := Scf.iv c0_i32_18 c1_i32_20 k0_t3
  let c128_i32 : BitVec 32 := 128#32
  let v25 : BitVec 32 := Scalar.muli arg8 c128_i32
  v25
def k0_mult6 (k0_t3 : Fin k0_t3_loop.trips) : BitVec 32 :=
  let c0_i32_18 : BitVec 32 := 0#32
  let c1_i32_20 : BitVec 32 := 1#32
  let arg8 : BitVec 32 := Scf.iv c0_i32_18 c1_i32_20 k0_t3
  let c2_i32 : BitVec 32 := 2#32
  let v27 : BitVec 32 := Scalar.muli arg8 c2_i32
  let c128_i32_26 : BitVec 32 := 128#32
  let v28 : BitVec 32 := Scalar.muli v27 c128_i32_26
  v28
def k0_off5 (k0_t3 : Fin k0_t3_loop.trips) : Fin 2 → Nat :=
  let c256 : Index := 256#32
  let c0_i32_18 : BitVec 32 := 0#32
  let c1_i32_20 : BitVec 32 := 1#32
  let arg8 : BitVec 32 := Scf.iv c0_i32_18 c1_i32_20 k0_t3
  let c128_i32 : BitVec 32 := 128#32
  let v25 : BitVec 32 := Scalar.muli arg8 c128_i32
  let v26 : BitVec 32 := v25
  let v30 : Index := Scalar.indexCast v26
  ![256, v30.toNat]
def k0_off6 (k0_t3 : Fin k0_t3_loop.trips) : Fin 2 → Nat :=
  let c0_i32_18 : BitVec 32 := 0#32
  let c1_i32_20 : BitVec 32 := 1#32
  let arg8 : BitVec 32 := Scf.iv c0_i32_18 c1_i32_20 k0_t3
  let c2_i32 : BitVec 32 := 2#32
  let v27 : BitVec 32 := Scalar.muli arg8 c2_i32
  let c128_i32_26 : BitVec 32 := 128#32
  let v28 : BitVec 32 := Scalar.muli v27 c128_i32_26
  let v29 : BitVec 32 := v28
  let v64 : Index := Scalar.indexCast v29
  let c256_33 : Index := 256#32
  ![v64.toNat, 256]
@[reducible] def k0_t4_loop : Scf.Loop 32 :=
  let c0_i32_22 : BitVec 32 := 0#32
  let c14_i32_23 : BitVec 32 := 14#32
  let v24 : BitVec 32 := Scalar.addi c0_i32_22 c14_i32_23
  let c1_i32_24 : BitVec 32 := 1#32
  ⟨c0_i32_22, v24, c1_i32_24⟩
def k0_mult7 (k0_t4 : Fin k0_t4_loop.trips) : BitVec 32 :=
  let c0_i32_22 : BitVec 32 := 0#32
  let c1_i32_24 : BitVec 32 := 1#32
  let arg8 : BitVec 32 := Scf.iv c0_i32_22 c1_i32_24 k0_t4
  let c128_i32 : BitVec 32 := 128#32
  let v25 : BitVec 32 := Scalar.muli arg8 c128_i32
  v25
def k0_mult8 (k0_t4 : Fin k0_t4_loop.trips) : BitVec 32 :=
  let c0_i32_22 : BitVec 32 := 0#32
  let c1_i32_24 : BitVec 32 := 1#32
  let arg8 : BitVec 32 := Scf.iv c0_i32_22 c1_i32_24 k0_t4
  let c2_i32 : BitVec 32 := 2#32
  let v27 : BitVec 32 := Scalar.muli arg8 c2_i32
  let c128_i32_26 : BitVec 32 := 128#32
  let v28 : BitVec 32 := Scalar.muli v27 c128_i32_26
  v28
def k0_off7 (k0_t4 : Fin k0_t4_loop.trips) : Fin 2 → Nat :=
  let c384 : Index := 384#32
  let c0_i32_22 : BitVec 32 := 0#32
  let c1_i32_24 : BitVec 32 := 1#32
  let arg8 : BitVec 32 := Scf.iv c0_i32_22 c1_i32_24 k0_t4
  let c128_i32 : BitVec 32 := 128#32
  let v25 : BitVec 32 := Scalar.muli arg8 c128_i32
  let v26 : BitVec 32 := v25
  let v30 : Index := Scalar.indexCast v26
  ![384, v30.toNat]
def k0_off8 (k0_t4 : Fin k0_t4_loop.trips) : Fin 2 → Nat :=
  let c0_i32_22 : BitVec 32 := 0#32
  let c1_i32_24 : BitVec 32 := 1#32
  let arg8 : BitVec 32 := Scf.iv c0_i32_22 c1_i32_24 k0_t4
  let c2_i32 : BitVec 32 := 2#32
  let v27 : BitVec 32 := Scalar.muli arg8 c2_i32
  let c128_i32_26 : BitVec 32 := 128#32
  let v28 : BitVec 32 := Scalar.muli v27 c128_i32_26
  let v29 : BitVec 32 := v28
  let v64 : Index := Scalar.indexCast v29
  let c384_33 : Index := 384#32
  ![v64.toNat, 384]
def k0_mult9 (i : grid0.Coords) : BitVec 32 :=
  let arg1 : BitVec 32 := BitVec.ofNat 32 (i 1).val
  let c768_i32 : BitVec 32 := 768#32
  let v3 : BitVec 32 := Scalar.muli arg1 c768_i32
  v3
def k0_off9 (i : grid0.Coords) : Fin 2 → Nat :=
  let arg1 : BitVec 32 := BitVec.ofNat 32 (i 1).val
  let c768_i32 : BitVec 32 := 768#32
  let v3 : BitVec 32 := Scalar.muli arg1 c768_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S6144x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F]
-- ==== ReferenceIdeal.lean ====
abbrev S3x2048x3584 : Shape := ⟨3, ![3, 2048, 3584]⟩
abbrev S18944x1792 : Shape := ⟨2, ![18944, 1792]⟩
abbrev S18944x16 : Shape := ⟨2, ![18944, 16]⟩
abbrev S_ : Shape := ⟨0, ![]⟩
abbrev S18944x1x1792 : Shape := ⟨3, ![18944, 1, 1792]⟩
abbrev S18944x2x1792 : Shape := ⟨3, ![18944, 2, 1792]⟩
abbrev S18944x1 : Shape := ⟨2, ![18944, 1]⟩
abbrev S18944x1x1 : Shape := ⟨3, ![18944, 1, 1]⟩
abbrev S3x2048x1792x2 : Shape := ⟨4, ![3, 2048, 1792, 2]⟩
abbrev S3x2048x2x1792 : Shape := ⟨4, ![3, 2048, 2, 1792]⟩
abbrev S3x2048x18944 : Shape := ⟨3, ![3, 2048, 18944]⟩
abbrev S6144x18944 : Shape := ⟨2, ![6144, 18944]⟩

abbrev nBuf : Space → Nat
  | .hbm => 117
  | .vmem => 0
  | .smem => 0
  | _ => 0

abbrev bufTy : (tb : Table) → Fin (tcTables nBuf tb) → BufTy
  | .hbm, ⟨0, _⟩ => ⟨S3x2048x3584, .bf16⟩
  | .hbm, ⟨1, _⟩ => ⟨S18944x1792, .i8⟩
  | .hbm, ⟨2, _⟩ => ⟨S18944x16, .bf16⟩
  | .hbm, ⟨3, _⟩ => ⟨S18944x1792, .i32⟩
  | .hbm, ⟨4, _⟩ => ⟨S_, .i32⟩
  | .hbm, ⟨5, _⟩ => ⟨S18944x1792, .i32⟩
  | .hbm, ⟨6, _⟩ => ⟨S18944x1792, .i32⟩
  | .hbm, ⟨7, _⟩ => ⟨S_, .i32⟩
  | .hbm, ⟨8, _⟩ => ⟨S18944x1792, .i32⟩
  | .hbm, ⟨9, _⟩ => ⟨S18944x1792, .i32⟩
  | .hbm, ⟨10, _⟩ => ⟨S18944x1x1792, .i32⟩
  | .hbm, ⟨11, _⟩ => ⟨S18944x1x1792, .i32⟩
  | .hbm, ⟨12, _⟩ => ⟨S18944x2x1792, .i32⟩
  | .hbm, ⟨13, _⟩ => ⟨S18944x1, .bf16⟩
  | .hbm, ⟨14, _⟩ => ⟨S18944x1x1, .bf16⟩
  | .hbm, ⟨15, _⟩ => ⟨S18944x1, .bf16⟩
  | .hbm, ⟨16, _⟩ => ⟨S18944x1x1, .bf16⟩
  | .hbm, ⟨17, _⟩ => ⟨S18944x1, .bf16⟩
  | .hbm, ⟨18, _⟩ => ⟨S18944x1x1, .bf16⟩
  | .hbm, ⟨19, _⟩ => ⟨S18944x1, .bf16⟩
  | .hbm, ⟨20, _⟩ => ⟨S18944x1x1, .bf16⟩
  | .hbm, ⟨21, _⟩ => ⟨S18944x1, .bf16⟩
  | .hbm, ⟨22, _⟩ => ⟨S18944x1x1, .bf16⟩
  | .hbm, ⟨23, _⟩ => ⟨S18944x1, .bf16⟩
  | .hbm, ⟨24, _⟩ => ⟨S18944x1x1, .bf16⟩
  | .hbm, ⟨25, _⟩ => ⟨S18944x1, .bf16⟩
  | .hbm, ⟨26, _⟩ => ⟨S18944x1x1, .bf16⟩
  | .hbm, ⟨27, _⟩ => ⟨S18944x1, .bf16⟩
  | .hbm, ⟨28, _⟩ => ⟨S18944x1x1, .bf16⟩
  | .hbm, ⟨29, _⟩ => ⟨S18944x1, .bf16⟩
  | .hbm, ⟨30, _⟩ => ⟨S18944x1x1, .bf16⟩
  | .hbm, ⟨31, _⟩ => ⟨S18944x1, .bf16⟩
  | .hbm, ⟨32, _⟩ => ⟨S18944x1x1, .bf16⟩
  | .hbm, ⟨33, _⟩ => ⟨S18944x1, .bf16⟩
  | .hbm, ⟨34, _⟩ => ⟨S18944x1x1, .bf16⟩
  | .hbm, ⟨35, _⟩ => ⟨S18944x1, .bf16⟩
  | .hbm, ⟨36, _⟩ => ⟨S18944x1x1, .bf16⟩
  | .hbm, ⟨37, _⟩ => ⟨S18944x1, .bf16⟩
  | .hbm, ⟨38, _⟩ => ⟨S18944x1x1, .bf16⟩
  | .hbm, ⟨39, _⟩ => ⟨S18944x1, .bf16⟩
  | .hbm, ⟨40, _⟩ => ⟨S18944x1x1, .bf16⟩
  | .hbm, ⟨41, _⟩ => ⟨S18944x1, .bf16⟩
  | .hbm, ⟨42, _⟩ => ⟨S18944x1x1, .bf16⟩
  | .hbm, ⟨43, _⟩ => ⟨S18944x1, .bf16⟩
  | .hbm, ⟨44, _⟩ => ⟨S18944x1x1, .bf16⟩
  | .hbm, ⟨45, _⟩ => ⟨S_, .i32⟩
  | .hbm, ⟨46, _⟩ => ⟨S18944x2x1792, .i32⟩
  | .hbm, ⟨47, _⟩ => ⟨S18944x2x1792, .i32⟩
  | .hbm, ⟨48, _⟩ => ⟨S_, .i32⟩
  | .hbm, ⟨49, _⟩ => ⟨S18944x2x1792, .i32⟩
  | .hbm, ⟨50, _⟩ => ⟨S18944x2x1792, .i32⟩
  | .hbm, ⟨51, _⟩ => ⟨S_, .i32⟩
  | .hbm, ⟨52, _⟩ => ⟨S18944x2x1792, .i32⟩
  | .hbm, ⟨53, _⟩ => ⟨S18944x2x1792, .i1⟩
  | .hbm, ⟨54, _⟩ => ⟨S18944x2x1792, .bf16⟩
  | .hbm, ⟨55, _⟩ => ⟨S18944x2x1792, .bf16⟩
  | .hbm, ⟨56, _⟩ => ⟨S18944x2x1792, .bf16⟩
  | .hbm, ⟨57, _⟩ => ⟨S18944x2x1792, .bf16⟩
  | .hbm, ⟨58, _⟩ => ⟨S18944x2x1792, .bf16⟩
  | .hbm, ⟨59, _⟩ => ⟨S18944x2x1792, .bf16⟩
  | .hbm, ⟨60, _⟩ => ⟨S18944x2x1792, .bf16⟩
  | .hbm, ⟨61, _⟩ => ⟨S18944x2x1792, .bf16⟩
  | .hbm, ⟨62, _⟩ => ⟨S18944x2x1792, .bf16⟩
  | .hbm, ⟨63, _⟩ => ⟨S18944x2x1792, .bf16⟩
  | .hbm, ⟨64, _⟩ => ⟨S18944x2x1792, .bf16⟩
  | .hbm, ⟨65, _⟩ => ⟨S18944x2x1792, .bf16⟩
  | .hbm, ⟨66, _⟩ => ⟨S18944x2x1792, .bf16⟩
  | .hbm, ⟨67, _⟩ => ⟨S18944x2x1792, .bf16⟩
  | .hbm, ⟨68, _⟩ => ⟨S18944x2x1792, .bf16⟩
  | .hbm, ⟨69, _⟩ => ⟨S18944x2x1792, .bf16⟩
  | .hbm, ⟨70, _⟩ => ⟨S18944x2x1792, .bf16⟩
  | .hbm, ⟨71, _⟩ => ⟨S18944x2x1792, .bf16⟩
  | .hbm, ⟨72, _⟩ => ⟨S18944x2x1792, .bf16⟩
  | .hbm, ⟨73, _⟩ => ⟨S18944x2x1792, .bf16⟩
  | .hbm, ⟨74, _⟩ => ⟨S18944x2x1792, .bf16⟩
  | .hbm, ⟨75, _⟩ => ⟨S18944x2x1792, .bf16⟩
  | .hbm, ⟨76, _⟩ => ⟨S18944x2x1792, .bf16⟩
  | .hbm, ⟨77, _⟩ => ⟨S18944x2x1792, .bf16⟩
  | .hbm, ⟨78, _⟩ => ⟨S_, .i32⟩
  | .hbm, ⟨79, _⟩ => ⟨S18944x2x1792, .i32⟩
  | .hbm, ⟨80, _⟩ => ⟨S18944x2x1792, .i32⟩
  | .hbm, ⟨81, _⟩ => ⟨S_, .i32⟩
  | .hbm, ⟨82, _⟩ => ⟨S18944x2x1792, .i32⟩
  | .hbm, ⟨83, _⟩ => ⟨S18944x2x1792, .i32⟩
  | .hbm, ⟨84, _⟩ => ⟨S_, .i32⟩
  | .hbm, ⟨85, _⟩ => ⟨S18944x2x1792, .i32⟩
  | .hbm, ⟨86, _⟩ => ⟨S18944x2x1792, .i1⟩
  | .hbm, ⟨87, _⟩ => ⟨S18944x2x1792, .bf16⟩
  | .hbm, ⟨88, _⟩ => ⟨S18944x2x1792, .bf16⟩
  | .hbm, ⟨89, _⟩ => ⟨S18944x2x1792, .bf16⟩
  | .hbm, ⟨90, _⟩ => ⟨S18944x2x1792, .bf16⟩
  | .hbm, ⟨91, _⟩ => ⟨S_, .i32⟩
  | .hbm, ⟨92, _⟩ => ⟨S18944x2x1792, .i32⟩
  | .hbm, ⟨93, _⟩ => ⟨S18944x2x1792, .i32⟩
  | .hbm, ⟨94, _⟩ => ⟨S_, .i32⟩
  | .hbm, ⟨95, _⟩ => ⟨S18944x2x1792, .i32⟩
  | .hbm, ⟨96, _⟩ => ⟨S18944x2x1792, .i32⟩
  | .hbm, ⟨97, _⟩ => ⟨S_, .i32⟩
  | .hbm, ⟨98, _⟩ => ⟨S18944x2x1792, .i32⟩
  | .hbm, ⟨99, _⟩ => ⟨S18944x2x1792, .i1⟩
  | .hbm, ⟨100, _⟩ => ⟨S18944x2x1792, .bf16⟩
  | .hbm, ⟨101, _⟩ => ⟨S18944x2x1792, .bf16⟩
  | .hbm, ⟨102, _⟩ => ⟨S_, .i32⟩
  | .hbm, ⟨103, _⟩ => ⟨S18944x2x1792, .i32⟩
  | .hbm, ⟨104, _⟩ => ⟨S18944x2x1792, .i32⟩
  | .hbm, ⟨105, _⟩ => ⟨S_, .i32⟩
  | .hbm, ⟨106, _⟩ => ⟨S18944x2x1792, .i32⟩
  | .hbm, ⟨107, _⟩ => ⟨S18944x2x1792, .i32⟩
  | .hbm, ⟨108, _⟩ => ⟨S_, .i32⟩
  | .hbm, ⟨109, _⟩ => ⟨S18944x2x1792, .i32⟩
  | .hbm, ⟨110, _⟩ => ⟨S18944x2x1792, .i1⟩
  | .hbm, ⟨111, _⟩ => ⟨S18944x2x1792, .bf16⟩
  | .hbm, ⟨112, _⟩ => ⟨S3x2048x1792x2, .bf16⟩
  | .hbm, ⟨113, _⟩ => ⟨S3x2048x2x1792, .bf16⟩
  | .hbm, ⟨114, _⟩ => ⟨S3x2048x18944, .f32⟩
  | .hbm, ⟨115, _⟩ => ⟨S3x2048x18944, .bf16⟩
  | .hbm, ⟨116, _⟩ => ⟨S6144x18944, .bf16⟩
  | _, _ => ⟨S3x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c_1 : Ref sig .tc := ⟨.hbm, 45, rfl⟩
abbrev main_v40 : Ref sig .tc := ⟨.hbm, 46, rfl⟩
abbrev main_v41 : Ref sig .tc := ⟨.hbm, 47, rfl⟩
abbrev main_c_2 : Ref sig .tc := ⟨.hbm, 48, rfl⟩
abbrev main_v42 : Ref sig .tc := ⟨.hbm, 49, rfl⟩
abbrev main_v43 : Ref sig .tc := ⟨.hbm, 50, rfl⟩
abbrev main_c_3 : Ref sig .tc := ⟨.hbm, 51, rfl⟩
abbrev main_v44 : Ref sig .tc := ⟨.hbm, 52, rfl⟩
abbrev main_v45 : Ref sig .tc := ⟨.hbm, 53, rfl⟩
abbrev main_call0_v0 : Ref sig .tc := ⟨.hbm, 54, rfl⟩
abbrev main_call0_v1 : Ref sig .tc := ⟨.hbm, 55, rfl⟩
abbrev main_v46 : Ref sig .tc := ⟨.hbm, 56, rfl⟩
abbrev main_call1_v0 : Ref sig .tc := ⟨.hbm, 57, rfl⟩
abbrev main_call1_v1 : Ref sig .tc := ⟨.hbm, 58, rfl⟩
abbrev main_v47 : Ref sig .tc := ⟨.hbm, 59, rfl⟩
abbrev main_call2_v0 : Ref sig .tc := ⟨.hbm, 60, rfl⟩
abbrev main_call2_v1 : Ref sig .tc := ⟨.hbm, 61, rfl⟩
abbrev main_v48 : Ref sig .tc := ⟨.hbm, 62, rfl⟩
abbrev main_call3_v0 : Ref sig .tc := ⟨.hbm, 63, rfl⟩
abbrev main_call3_v1 : Ref sig .tc := ⟨.hbm, 64, rfl⟩
abbrev main_v49 : Ref sig .tc := ⟨.hbm, 65, rfl⟩
abbrev main_call4_v0 : Ref sig .tc := ⟨.hbm, 66, rfl⟩
abbrev main_call4_v1 : Ref sig .tc := ⟨.hbm, 67, rfl⟩
abbrev main_v50 : Ref sig .tc := ⟨.hbm, 68, rfl⟩
abbrev main_call5_v0 : Ref sig .tc := ⟨.hbm, 69, rfl⟩
abbrev main_call5_v1 : Ref sig .tc := ⟨.hbm, 70, rfl⟩
abbrev main_v51 : Ref sig .tc := ⟨.hbm, 71, rfl⟩
abbrev main_call6_v0 : Ref sig .tc := ⟨.hbm, 72, rfl⟩
abbrev main_call6_v1 : Ref sig .tc := ⟨.hbm, 73, rfl⟩
abbrev main_v52 : Ref sig .tc := ⟨.hbm, 74, rfl⟩
abbrev main_call7_v0 : Ref sig .tc := ⟨.hbm, 75, rfl⟩
abbrev main_call7_v1 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_c_5 : Ref sig .tc := ⟨.hbm, 81, rfl⟩
abbrev main_v56 : Ref sig .tc := ⟨.hbm, 82, rfl⟩
abbrev main_v57 : Ref sig .tc := ⟨.hbm, 83, rfl⟩
abbrev main_c_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_7 : Ref sig .tc := ⟨.hbm, 91, rfl⟩
abbrev main_v64 : Ref sig .tc := ⟨.hbm, 92, rfl⟩
abbrev main_v65 : Ref sig .tc := ⟨.hbm, 93, rfl⟩
abbrev main_c_8 : Ref sig .tc := ⟨.hbm, 94, rfl⟩
abbrev main_v66 : Ref sig .tc := ⟨.hbm, 95, rfl⟩
abbrev main_v67 : Ref sig .tc := ⟨.hbm, 96, rfl⟩
abbrev main_c_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_10 : Ref sig .tc := ⟨.hbm, 102, rfl⟩
abbrev main_v72 : Ref sig .tc := ⟨.hbm, 103, rfl⟩
abbrev main_v73 : Ref sig .tc := ⟨.hbm, 104, rfl⟩
abbrev main_c_11 : Ref sig .tc := ⟨.hbm, 105, rfl⟩
abbrev main_v74 : Ref sig .tc := ⟨.hbm, 106, rfl⟩
abbrev main_v75 : Ref sig .tc := ⟨.hbm, 107, rfl⟩
abbrev main_c_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Proof.Kernel.Frame.lean ====
/- The kernel's frame at any element type: every execution ends, its three arguments as they were. Nothing is said here
   of what the kernel computes; the two scratch buffers and the output's buffer are held at some contents throughout. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The condition under which the body decodes: the second grid coordinate is zero. -/
abbrev cond0_0 (i : grid0.Coords) : Prop := k0_cond1 i = 1#1
/-- It holds at the points that are multiples of eight. -/
theorem hcond0_0 : ∀ t : Fin cfg0.N, cond0_0 (grid0.coords t) ↔ t.val % 8 = 0 :=
  (fun t => by
    have ht : t.val < 296 := Nat.lt_of_lt_of_eq t.isLt N_0
    have e0 : (grid0.coords t 0).val = t.val / 8 % 37 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The kernel body on any buffers: what it leaves in the output's buffer is whatever its run gives -/

/-- Each window's buffer at point `t`, and that it is whole. -/
abbrev ms0_0 (t : Fin cfg0.N) : Memref sig .tc .vmem S6144x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x512 .bf16 := win0_3.stage (cfg0.slots t 3)
abbrev hs0_3 (t : Fin cfg0.N) : (ms0_3 t).IsWhole := hstage0_3 ((cfg0.slots t 3).cast nbuf0_3)
/-- The two scratch buffers. -/
abbrev scM0_0 : Memref sig .tc .vmem S3584x512 .bf16 := Memref.whole cc0_scratch0
abbrev scM0_1 : Memref sig .tc .vmem S512x128 .f32 := Memref.whole cc0_scratch1

/-- What is held beside the windows' buffers: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body where it decodes: on whole buffers, the inputs' at given contents and the others' at some, it ends with the
    inputs' as they were and the others' at some contents. -/
theorem kernelRun0_A (c : Dev nD) (i : grid0.Coords) (arg2 : Memref sig .tc .vmem S6144x3584 .bf16) (harg2 : arg2.IsWhole) (arg3 : Memref sig .tc .vmem S512x1792 .i8) (harg3 : arg3.IsWhole) (arg4 : Memref sig .tc .vmem S512x16 .bf16) (harg4 : arg4.IsWhole) (arg5 : Memref sig .tc .vmem S768x512 .bf16) (harg5 : arg5.IsWhole) (arg6 : Memref sig .tc .vmem S3584x512 .bf16) (harg6 : arg6.IsWhole) (arg7 : Memref sig .tc .vmem S512x128 .f32) (harg7 : arg7.IsWhole) (hc0 : cond0_0 i)
    (x0 : Vec F S6144x3584 .bf16) (x1 : Vec F S512x1792 .i8) (x2 : Vec F S512x16 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_any4_linear i arg2 harg2 arg3 harg3 arg4 harg4 arg5 harg5 arg6 harg6 arg7 harg7) K := by
    intro E K
    simp only [cc0_any4_linear_eq_skeleton]; unfold cc0_any4_linear_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

set_option maxHeartbeats 1000000 in
/-- The body where it does not decode, likewise. -/
theorem kernelRun0_B (c : Dev nD) (i : grid0.Coords) (arg2 : Memref sig .tc .vmem S6144x3584 .bf16) (harg2 : arg2.IsWhole) (arg3 : Memref sig .tc .vmem S512x1792 .i8) (harg3 : arg3.IsWhole) (arg4 : Memref sig .tc .vmem S512x16 .bf16) (harg4 : arg4.IsWhole) (arg5 : Memref sig .tc .vmem S768x512 .bf16) (harg5 : arg5.IsWhole) (arg6 : Memref sig .tc .vmem S3584x512 .bf16) (harg6 : arg6.IsWhole) (arg7 : Memref sig .tc .vmem S512x128 .f32) (harg7 : arg7.IsWhole) (hc0 : ¬cond0_0 i)
    (x0 : Vec F S6144x3584 .bf16) (x1 : Vec F S512x1792 .i8) (x2 : Vec F S512x16 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_any4_linear i arg2 harg2 arg3 harg3 arg4 harg4 arg5 harg5 arg6 harg6 arg7 harg7) K := by
    intro E K
    simp only [cc0_any4_linear_eq_skeleton]; unfold cc0_any4_linear_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

/-- The output window is the one whose contents are not named. -/
def forgets0 : Fin 4 → Bool := fun w => w.val == 3

/-- The contents held at each point: an input's buffer at its block, the output's at no named contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves in each input's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point: the case by whether the point is a multiple of eight, then that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 296 := lt_of_lt_of_eq t.isLt (show cfg0.N = 296 from N_0)
  by_cases h0 : t.val % 8 = 0
  · iintro ⟨⟨⟨HS0, HS1⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3
  · iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: every execution ends with the inputs as they were and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- From the run's post to the arguments: a windowed input by its array, the first argument because the region leaves it alone. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: the arguments end as they were and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Ideal.Blocks.lean ====
/- What one pass of the decoding leaves in the weight scratch: its 56 stores, 14 in each of four column bands of 128,
   are the blocks of one array, named here from the packed codes and the table, and together they cover it. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Writes
public import Idealize.ShloMosaic.Lib.Pipeline.ValueKit

@[expose] public section

set_option maxRecDepth 16384

noncomputable section

open Idealize.ShloMosaic hiding ix2 eq_ix2
open Idealize.ShloMosaic.ValueIdx

namespace Cert.KernelIdeal.Hand

open Cert.KernelIdeal Cert.KernelIdeal.Gen

variable {F : FTy → Type} [FloatOps F]

/-- The table as the scratch holds it: sixteen columns of the given table, widened, then zeros up to 128. -/
def table (x2 : Vec F S512x16 .bf16) : Vec F S512x128 .f32 := fun y =>
  if h : (y 1).val < 16 then k0_pay2 x2 (ix2 ⟨(y 0).val, idx2_lt0 y⟩ ⟨(y 1).val, h⟩) else k0_pay1 y

/-- The weight scratch after the decoding: the element at row `y 0`, column `y 1` is the element of the block of 256 rows
    and 128 columns it lies in, decoded from that block's 128 × 128 codes and its columns' 128 rows of the table. -/
def decoded (x1 : Vec F S512x1792 .i8) (T : Vec F S512x128 .f32) : Vec F S3584x512 .bf16 := fun y =>
  k0_pay3
    (fun z : S128x128.Idx => x1 (ix2
      ⟨(y 1).val / 128 * 128 + (z 0).val, by have := idx2_lt1 y; have := idx2_lt0 z; omega⟩
      ⟨(y 0).val / 256 * 128 + (z 1).val, by have := idx2_lt0 y; have := idx2_lt1 z; omega⟩))
    (fun z : S128x128.Idx => T (ix2
      ⟨(y 1).val / 128 * 128 + (z 0).val, by have := idx2_lt1 y; have := idx2_lt0 z; omega⟩ ⟨(z 1).val, idx2_lt1 z⟩))
    (ix2 ⟨(y 0).val % 256, Nat.mod_lt _ (by decide)⟩ ⟨(y 1).val % 128, Nat.mod_lt _ (by decide)⟩)

/-- One store's payload, decoded from the codes at rows `128 q`, columns `128 j` and the table's rows `128 q`, is the
    block of `decoded` at rows `256 j`, columns `128 q`. -/
theorem block_eq (x1 : Vec F S512x1792 .i8) (T : Vec F S512x128 .f32) (q j : ℕ)
    (offL : Fin 2 → ℕ) (hL : offL = ![128 * q, 128 * j]) (inbL : ∀ a, offL a + S128x128.size a ≤ S512x1792.size a)
    (offT : Fin 2 → ℕ) (hT : offT = ![128 * q, 0]) (inbT : ∀ a, offT a + S128x128.size a ≤ S512x128.size a)
    (offS : Fin 2 → ℕ) (hS : offS = ![256 * j, 128 * q]) (inbS : ∀ a, offS a + S256x128.size a ≤ S3584x512.size a)
    (x : S256x128.Idx) :
    k0_pay3 (View.ld (Val := Elt F) x1 (Rect.unit (s := S512x1792) offL S128x128.size inbL))
        (View.ld (Val := Elt F) T (Rect.unit (s := S512x128) offT S128x128.size inbT)) x
      = decoded x1 T ((Rect.unit (s := S3584x512) offS S256x128.size inbS).emb x) := by
  subst hL hT hS
  have hx0 : (x 0).val < 256 := idx2_lt0 x
  have hx1 : (x 1).val < 128 := idx2_lt1 x
  have h0 : ((Rect.unit (s := S3584x512) ![256 * j, 128 * q] S256x128.size inbS).emb x 0).val = 256 * j + (x 0).val := by
    rw [Rect.emb_apply]; exact congrArg (256 * j + ·) (Nat.one_mul _)
  have h1 : ((Rect.unit (s := S3584x512) ![256 * j, 128 * q] S256x128.size inbS).emb x 1).val = 128 * q + (x 1).val := by
    rw [Rect.emb_apply]; exact congrArg (128 * q + ·) (Nat.one_mul _)
  unfold decoded
  have e1 : View.ld (Val := Elt F) x1 (Rect.unit (s := S512x1792) ![128 * q, 128 * j] S128x128.size inbL)
      = fun z : S128x128.Idx => x1 (ix2
        ⟨((Rect.unit (s := S3584x512) ![256 * j, 128 * q] S256x128.size inbS).emb x 1).val / 128 * 128 + (z 0).val, by
          have := idx2_lt1 ((Rect.unit (s := S3584x512) ![256 * j, 128 * q] S256x128.size inbS).emb x)
          have := idx2_lt0 z; omega⟩
        ⟨((Rect.unit (s := S3584x512) ![256 * j, 128 * q] S256x128.size inbS).emb x 0).val / 256 * 128 + (z 1).val, by
          have := idx2_lt0 ((Rect.unit (s := S3584x512) ![256 * j, 128 * q] S256x128.size inbS).emb x)
          have := idx2_lt1 z; omega⟩) := by
    funext z
    refine congrArg x1 (funext fun a => Fin.ext ?_)
    match a with
    | ⟨0, _⟩ => show 128 * q + 1 * (z 0).val = _ / 128 * 128 + (z 0).val; rw [h1]; omega
    | ⟨1, _⟩ => show 128 * j + 1 * (z 1).val = _ / 256 * 128 + (z 1).val; rw [h0]; omega
  have e2 : View.ld (Val := Elt F) T (Rect.unit (s := S512x128) ![128 * q, 0] S128x128.size inbT)
      = fun z : S128x128.Idx => T (ix2
        ⟨((Rect.unit (s := S3584x512) ![256 * j, 128 * q] S256x128.size inbS).emb x 1).val / 128 * 128 + (z 0).val, by
          have := idx2_lt1 ((Rect.unit (s := S3584x512) ![256 * j, 128 * q] S256x128.size inbS).emb x)
          have := idx2_lt0 z; omega⟩ ⟨(z 1).val, idx2_lt1 z⟩) := by
    funext z
    refine congrArg T (funext fun a => Fin.ext ?_)
    match a with
    | ⟨0, _⟩ => show 128 * q + 1 * (z 0).val = _ / 128 * 128 + (z 0).val; rw [h1]; omega
    | ⟨1, _⟩ => show 0 + 1 * (z 1).val = (z 1).val; omega
  rw [e1, e2]
  refine congrArg _ (funext fun a => Fin.ext ?_)
  match a with
  | ⟨0, _⟩ => show (x 0).val = _ % 256; rw [h0]; omega
  | ⟨1, _⟩ => show (x 1).val = _ % 128; rw [h1]; omega

/-- The pieces of a sequence of trips, each trip one store of 256 rows and 128 columns at rows `256 k`, column `b`: every
    piece agrees with `G` when every trip's does. -/
theorem pieces_agree (G : Vec F S3584x512 .bf16) (n : ℕ) (pb : ℕ → List (View.Piece (Elt F) S3584x512 .bf16))
    (L : Fin n → View.Piece (Elt F) S3584x512 .bf16) (h0 : pb 0 = []) (hs : ∀ k : Fin n, pb (k.val + 1) = [L k] ++ pb k.val)
    (hL : ∀ k x, (L k).2 x = G ((L k).1.emb x)) :
    ∀ k, k ≤ n → ∀ p ∈ pb k, ∀ x, p.2 x = G (p.1.emb x)
  | 0, _, p, hp => by rw [h0] at hp; exact absurd hp List.not_mem_nil
  | k + 1, hk, p, hp => by
    rw [hs ⟨k, hk⟩] at hp
    rcases List.mem_append.mp hp with h | h
    · obtain rfl := List.mem_singleton.mp h; exact hL _
    · exact pieces_agree G n pb L h0 hs hL k (Nat.le_of_lt hk) p h

/-- An element some trip's store holds is in a piece of the sequence. -/
theorem pieces_mem (n : ℕ) (pb : ℕ → List (View.Piece (Elt F) S3584x512 .bf16))
    (L : Fin n → View.Piece (Elt F) S3584x512 .bf16) (hs : ∀ k : Fin n, pb (k.val + 1) = [L k] ++ pb k.val)
    (k0 : Fin n) : ∀ k, k0.val < k → k ≤ n → L k0 ∈ pb k
  | 0, h, _ => absurd h (Nat.not_lt_zero _)
  | k + 1, h, hk => by
    rw [hs ⟨k, hk⟩]
    rcases Nat.lt_succ_iff_lt_or_eq.mp h with h | h
    · exact List.mem_append_right _ (pieces_mem n pb L hs k0 k h (Nat.le_of_lt hk))
    · subst h; exact List.mem_append_left _ (List.mem_singleton_self _)

/-- An element in column band `b … b+127` is in the rectangle stored at rows `256 k` for `k` its row over 256. -/
theorem mem_band (y : S3584x512.Idx) (b : ℕ) (hb : b ≤ (y 1).val ∧ (y 1).val < b + 128) (off : Fin 2 → ℕ)
    (ho : off = ![256 * ((y 0).val / 256), b]) (inb : ∀ a, off a + S256x128.size a ≤ S3584x512.size a) :
    y ∈ (Rect.unit (s := S3584x512) off S256x128.size inb).set := by
  subst ho
  rw [Rect.mem_set_unit]
  intro a
  match a with
  | ⟨0, _⟩ => show 256 * ((y 0).val / 256) ≤ (y 0).val ∧ (y 0).val < 256 * ((y 0).val / 256) + 256; omega
  | ⟨1, _⟩ => exact hb

end Cert.KernelIdeal.Hand

end
-- ==== Proof.Ideal.Bands.lean ====
/- The four decoding loops: each stores fourteen blocks into one column band of the weight scratch, every block a part of
   the one decoded array, and the four bands together are the whole scratch. -/
module

public import proofs.«01_k».proof.Proof.Ideal.Blocks

@[expose] public section

set_option maxRecDepth 16384

noncomputable section

open Idealize.ShloMosaic hiding ix2 eq_ix2
open Idealize.ShloMosaic.ValueIdx

namespace Cert.KernelIdeal.Hand

open Cert.KernelIdeal Cert.KernelIdeal.Gen

variable {F : FTy → Type} [FloatOps F]
variable (𝒱 : Variants) (c : Dev nD) (bd : Option 𝒱.V) (i : grid0.Coords)
  (arg2 : Memref sig .tc .vmem S6144x3584 .bf16) (harg2 : arg2.IsWhole)
  (arg3 : Memref sig .tc .vmem S512x1792 .i8) (harg3 : arg3.IsWhole)
  (arg4 : Memref sig .tc .vmem S512x16 .bf16) (harg4 : arg4.IsWhole)
  (arg5 : Memref sig .tc .vmem S768x512 .bf16) (harg5 : arg5.IsWhole)
  (arg6 : Memref sig .tc .vmem S3584x512 .bf16) (harg6 : arg6.IsWhole)
  (arg7 : Memref sig .tc .vmem S512x128 .f32) (harg7 : arg7.IsWhole)
  (k0_h1 : k0_cond1 i = 1#1) (X_arg3 : BufTy.Contents (Elt F) arg3.view.ty) (X_arg7 : BufTy.Contents (Elt F) arg7.view.ty)

/-- Trip `k` of loop 1 stores one block: the decoding of its codes with its rows of the table. -/
def blk_t1 (k : Fin k0_t1_loop.trips) : View.Piece (Elt F) S3584x512 .bf16 :=
  ⟨Rect.unit (s := S3584x512) (k0_off2 k) S256x128.size (k0_off2_inb i k k0_h1),
    k0_pay3 (View.ld (Val := Elt F) (arg3.view.read (Elt F) X_arg3) (Rect.unit (s := S512x1792) (k0_off1 k) S128x128.size (k0_off1_inb i k k0_h1)))
      (View.ld (Val := Elt F) (arg7.view.read (Elt F) X_arg7) (Rect.unit (s := S512x128) ![0, 0] S128x128.size inb_S512x128_S128x128_0_0))⟩

theorem trips_t1 : k0_t1_loop.trips = 14 := by decide +kernel

theorem pb_t1_succ (k : Fin k0_t1_loop.trips) :
    pb_k0_t1 (F := F) 𝒱 c bd i arg2 harg2 arg3 harg3 arg4 harg4 arg5 harg5 arg6 harg6 arg7 harg7 k0_h1 X_arg3 X_arg7 (k.val + 1)
      = [blk_t1 i arg3 arg7 k0_h1 X_arg3 X_arg7 k] ++ pb_k0_t1 (F := F) 𝒱 c bd i arg2 harg2 arg3 harg3 arg4 harg4 arg5 harg5 arg6 harg6 arg7 harg7 k0_h1 X_arg3 X_arg7 k.val := by
  rw [pb_k0_t1_succ]
  refine congrArg (· ++ _) ?_
  unfold tripL_k0_t1 trip_k0_t1
  rfl

/-- Every block loop 1 stores is the decoded array's. -/
theorem agree_t1 : ∀ p ∈ pb_k0_t1 (F := F) 𝒱 c bd i arg2 harg2 arg3 harg3 arg4 harg4 arg5 harg5 arg6 harg6 arg7 harg7 k0_h1 X_arg3 X_arg7 k0_t1_loop.trips,
    ∀ x, p.2 x = decoded (arg3.view.read (Elt F) X_arg3) (arg7.view.read (Elt F) X_arg7) (p.1.emb x) :=
  pieces_agree _ k0_t1_loop.trips (pb_k0_t1 (F := F) 𝒱 c bd i arg2 harg2 arg3 harg3 arg4 harg4 arg5 harg5 arg6 harg6 arg7 harg7 k0_h1 X_arg3 X_arg7)
    (blk_t1 i arg3 arg7 k0_h1 X_arg3 X_arg7) rfl (pb_t1_succ 𝒱 c bd i arg2 harg2 arg3 harg3 arg4 harg4 arg5 harg5 arg6 harg6 arg7 harg7 k0_h1 X_arg3 X_arg7)
    (fun k x => block_eq _ _ 0 k.val (k0_off1 k) (k0_off1_eq k) (k0_off1_inb i k k0_h1) _ rfl inb_S512x128_S128x128_0_0
      (k0_off2 k) (k0_off2_eq k) (k0_off2_inb i k k0_h1) x) _ le_rfl

/-- Loop 1 stores all of columns 0 to 127. -/
theorem cover_t1 (y : S3584x512.Idx) (h : 0 ≤ (y 1).val ∧ (y 1).val < 0 + 128) :
    ∃ p ∈ pb_k0_t1 (F := F) 𝒱 c bd i arg2 harg2 arg3 harg3 arg4 harg4 arg5 harg5 arg6 harg6 arg7 harg7 k0_h1 X_arg3 X_arg7 k0_t1_loop.trips, y ∈ p.1.set :=
  have hk : (y 0).val / 256 < k0_t1_loop.trips := by have := idx2_lt0 y; rw [trips_t1]; omega
  ⟨_, pieces_mem k0_t1_loop.trips (pb_k0_t1 (F := F) 𝒱 c bd i arg2 harg2 arg3 harg3 arg4 harg4 arg5 harg5 arg6 harg6 arg7 harg7 k0_h1 X_arg3 X_arg7) _ (pb_t1_succ 𝒱 c bd i arg2 harg2 arg3 harg3 arg4 harg4 arg5 harg5 arg6 harg6 arg7 harg7 k0_h1 X_arg3 X_arg7) ⟨(y 0).val / 256, hk⟩ _ hk le_rfl,
    mem_band y 0 h (k0_off2 ⟨(y 0).val / 256, hk⟩) (k0_off2_eq _) (k0_off2_inb i _ k0_h1)⟩

/-- Trip `k` of loop 2 stores one block: the decoding of its codes with its rows of the table. -/
def blk_t2 (k : Fin k0_t2_loop.trips) : View.Piece (Elt F) S3584x512 .bf16 :=
  ⟨Rect.unit (s := S3584x512) (k0_off4 k) S256x128.size (k0_off4_inb i k k0_h1),
    k0_pay3 (View.ld (Val := Elt F) (arg3.view.read (Elt F) X_arg3) (Rect.unit (s := S512x1792) (k0_off3 k) S128x128.size (k0_off3_inb i k k0_h1)))
      (View.ld (Val := Elt F) (arg7.view.read (Elt F) X_arg7) (Rect.unit (s := S512x128) ![128, 0] S128x128.size inb_S512x128_S128x128_128_0))⟩

theorem trips_t2 : k0_t2_loop.trips = 14 := by decide +kernel

theorem pb_t2_succ (k : Fin k0_t2_loop.trips) :
    pb_k0_t2 (F := F) 𝒱 c bd i arg2 harg2 arg3 harg3 arg4 harg4 arg5 harg5 arg6 harg6 arg7 harg7 k0_h1 X_arg3 X_arg7 (k.val + 1)
      = [blk_t2 i arg3 arg7 k0_h1 X_arg3 X_arg7 k] ++ pb_k0_t2 (F := F) 𝒱 c bd i arg2 harg2 arg3 harg3 arg4 harg4 arg5 harg5 arg6 harg6 arg7 harg7 k0_h1 X_arg3 X_arg7 k.val := by
  rw [pb_k0_t2_succ]
  refine congrArg (· ++ _) ?_
  unfold tripL_k0_t2 trip_k0_t2
  rfl

/-- Every block loop 2 stores is the decoded array's. -/
theorem agree_t2 : ∀ p ∈ pb_k0_t2 (F := F) 𝒱 c bd i arg2 harg2 arg3 harg3 arg4 harg4 arg5 harg5 arg6 harg6 arg7 harg7 k0_h1 X_arg3 X_arg7 k0_t2_loop.trips,
    ∀ x, p.2 x = decoded (arg3.view.read (Elt F) X_arg3) (arg7.view.read (Elt F) X_arg7) (p.1.emb x) :=
  pieces_agree _ k0_t2_loop.trips (pb_k0_t2 (F := F) 𝒱 c bd i arg2 harg2 arg3 harg3 arg4 harg4 arg5 harg5 arg6 harg6 arg7 harg7 k0_h1 X_arg3 X_arg7)
    (blk_t2 i arg3 arg7 k0_h1 X_arg3 X_arg7) rfl (pb_t2_succ 𝒱 c bd i arg2 harg2 arg3 harg3 arg4 harg4 arg5 harg5 arg6 harg6 arg7 harg7 k0_h1 X_arg3 X_arg7)
    (fun k x => block_eq _ _ 1 k.val (k0_off3 k) (k0_off3_eq k) (k0_off3_inb i k k0_h1) _ rfl inb_S512x128_S128x128_128_0
      (k0_off4 k) (k0_off4_eq k) (k0_off4_inb i k k0_h1) x) _ le_rfl

/-- Loop 2 stores all of columns 128 to 255. -/
theorem cover_t2 (y : S3584x512.Idx) (h : 128 ≤ (y 1).val ∧ (y 1).val < 128 + 128) :
    ∃ p ∈ pb_k0_t2 (F := F) 𝒱 c bd i arg2 harg2 arg3 harg3 arg4 harg4 arg5 harg5 arg6 harg6 arg7 harg7 k0_h1 X_arg3 X_arg7 k0_t2_loop.trips, y ∈ p.1.set :=
  have hk : (y 0).val / 256 < k0_t2_loop.trips := by have := idx2_lt0 y; rw [trips_t2]; omega
  ⟨_, pieces_mem k0_t2_loop.trips (pb_k0_t2 (F := F) 𝒱 c bd i arg2 harg2 arg3 harg3 arg4 harg4 arg5 harg5 arg6 harg6 arg7 harg7 k0_h1 X_arg3 X_arg7) _ (pb_t2_succ 𝒱 c bd i arg2 harg2 arg3 harg3 arg4 harg4 arg5 harg5 arg6 harg6 arg7 harg7 k0_h1 X_arg3 X_arg7) ⟨(y 0).val / 256, hk⟩ _ hk le_rfl,
    mem_band y 128 h (k0_off4 ⟨(y 0).val / 256, hk⟩) (k0_off4_eq _) (k0_off4_inb i _ k0_h1)⟩

/-- Trip `k` of loop 3 stores one block: the decoding of its codes with its rows of the table. -/
def blk_t3 (k : Fin k0_t3_loop.trips) : View.Piece (Elt F) S3584x512 .bf16 :=
  ⟨Rect.unit (s := S3584x512) (k0_off6 k) S256x128.size (k0_off6_inb i k k0_h1),
    k0_pay3 (View.ld (Val := Elt F) (arg3.view.read (Elt F) X_arg3) (Rect.unit (s := S512x1792) (k0_off5 k) S128x128.size (k0_off5_inb i k k0_h1)))
      (View.ld (Val := Elt F) (arg7.view.read (Elt F) X_arg7) (Rect.unit (s := S512x128) ![256, 0] S128x128.size inb_S512x128_S128x128_256_0))⟩

theorem trips_t3 : k0_t3_loop.trips = 14 := by decide +kernel

theorem pb_t3_succ (k : Fin k0_t3_loop.trips) :
    pb_k0_t3 (F := F) 𝒱 c bd i arg2 harg2 arg3 harg3 arg4 harg4 arg5 harg5 arg6 harg6 arg7 harg7 k0_h1 X_arg3 X_arg7 (k.val + 1)
      = [blk_t3 i arg3 arg7 k0_h1 X_arg3 X_arg7 k] ++ pb_k0_t3 (F := F) 𝒱 c bd i arg2 harg2 arg3 harg3 arg4 harg4 arg5 harg5 arg6 harg6 arg7 harg7 k0_h1 X_arg3 X_arg7 k.val := by
  rw [pb_k0_t3_succ]
  refine congrArg (· ++ _) ?_
  unfold tripL_k0_t3 trip_k0_t3
  rfl

/-- Every block loop 3 stores is the decoded array's. -/
theorem agree_t3 : ∀ p ∈ pb_k0_t3 (F := F) 𝒱 c bd i arg2 harg2 arg3 harg3 arg4 harg4 arg5 harg5 arg6 harg6 arg7 harg7 k0_h1 X_arg3 X_arg7 k0_t3_loop.trips,
    ∀ x, p.2 x = decoded (arg3.view.read (Elt F) X_arg3) (arg7.view.read (Elt F) X_arg7) (p.1.emb x) :=
  pieces_agree _ k0_t3_loop.trips (pb_k0_t3 (F := F) 𝒱 c bd i arg2 harg2 arg3 harg3 arg4 harg4 arg5 harg5 arg6 harg6 arg7 harg7 k0_h1 X_arg3 X_arg7)
    (blk_t3 i arg3 arg7 k0_h1 X_arg3 X_arg7) rfl (pb_t3_succ 𝒱 c bd i arg2 harg2 arg3 harg3 arg4 harg4 arg5 harg5 arg6 harg6 arg7 harg7 k0_h1 X_arg3 X_arg7)
    (fun k x => block_eq _ _ 2 k.val (k0_off5 k) (k0_off5_eq k) (k0_off5_inb i k k0_h1) _ rfl inb_S512x128_S128x128_256_0
      (k0_off6 k) (k0_off6_eq k) (k0_off6_inb i k k0_h1) x) _ le_rfl

/-- Loop 3 stores all of columns 256 to 383. -/
theorem cover_t3 (y : S3584x512.Idx) (h : 256 ≤ (y 1).val ∧ (y 1).val < 256 + 128) :
    ∃ p ∈ pb_k0_t3 (F := F) 𝒱 c bd i arg2 harg2 arg3 harg3 arg4 harg4 arg5 harg5 arg6 harg6 arg7 harg7 k0_h1 X_arg3 X_arg7 k0_t3_loop.trips, y ∈ p.1.set :=
  have hk : (y 0).val / 256 < k0_t3_loop.trips := by have := idx2_lt0 y; rw [trips_t3]; omega
  ⟨_, pieces_mem k0_t3_loop.trips (pb_k0_t3 (F := F) 𝒱 c bd i arg2 harg2 arg3 harg3 arg4 harg4 arg5 harg5 arg6 harg6 arg7 harg7 k0_h1 X_arg3 X_arg7) _ (pb_t3_succ 𝒱 c bd i arg2 harg2 arg3 harg3 arg4 harg4 arg5 harg5 arg6 harg6 arg7 harg7 k0_h1 X_arg3 X_arg7) ⟨(y 0).val / 256, hk⟩ _ hk le_rfl,
    mem_band y 256 h (k0_off6 ⟨(y 0).val / 256, hk⟩) (k0_off6_eq _) (k0_off6_inb i _ k0_h1)⟩

/-- Trip `k` of loop 4 stores one block: the decoding of its codes with its rows of the table. -/
def blk_t4 (k : Fin k0_t4_loop.trips) : View.Piece (Elt F) S3584x512 .bf16 :=
  ⟨Rect.unit (s := S3584x512) (k0_off8 k) S256x128.size (k0_off8_inb i k k0_h1),
    k0_pay3 (View.ld (Val := Elt F) (arg3.view.read (Elt F) X_arg3) (Rect.unit (s := S512x1792) (k0_off7 k) S128x128.size (k0_off7_inb i k k0_h1)))
      (View.ld (Val := Elt F) (arg7.view.read (Elt F) X_arg7) (Rect.unit (s := S512x128) ![384, 0] S128x128.size inb_S512x128_S128x128_384_0))⟩

theorem trips_t4 : k0_t4_loop.trips = 14 := by decide +kernel

theorem pb_t4_succ (k : Fin k0_t4_loop.trips) :
    pb_k0_t4 (F := F) 𝒱 c bd i arg2 harg2 arg3 harg3 arg4 harg4 arg5 harg5 arg6 harg6 arg7 harg7 k0_h1 X_arg3 X_arg7 (k.val + 1)
      = [blk_t4 i arg3 arg7 k0_h1 X_arg3 X_arg7 k] ++ pb_k0_t4 (F := F) 𝒱 c bd i arg2 harg2 arg3 harg3 arg4 harg4 arg5 harg5 arg6 harg6 arg7 harg7 k0_h1 X_arg3 X_arg7 k.val := by
  rw [pb_k0_t4_succ]
  refine congrArg (· ++ _) ?_
  unfold tripL_k0_t4 trip_k0_t4
  rfl

/-- Every block loop 4 stores is the decoded array's. -/
theorem agree_t4 : ∀ p ∈ pb_k0_t4 (F := F) 𝒱 c bd i arg2 harg2 arg3 harg3 arg4 harg4 arg5 harg5 arg6 harg6 arg7 harg7 k0_h1 X_arg3 X_arg7 k0_t4_loop.trips,
    ∀ x, p.2 x = decoded (arg3.view.read (Elt F) X_arg3) (arg7.view.read (Elt F) X_arg7) (p.1.emb x) :=
  pieces_agree _ k0_t4_loop.trips (pb_k0_t4 (F := F) 𝒱 c bd i arg2 harg2 arg3 harg3 arg4 harg4 arg5 harg5 arg6 harg6 arg7 harg7 k0_h1 X_arg3 X_arg7)
    (blk_t4 i arg3 arg7 k0_h1 X_arg3 X_arg7) rfl (pb_t4_succ 𝒱 c bd i arg2 harg2 arg3 harg3 arg4 harg4 arg5 harg5 arg6 harg6 arg7 harg7 k0_h1 X_arg3 X_arg7)
    (fun k x => block_eq _ _ 3 k.val (k0_off7 k) (k0_off7_eq k) (k0_off7_inb i k k0_h1) _ rfl inb_S512x128_S128x128_384_0
      (k0_off8 k) (k0_off8_eq k) (k0_off8_inb i k k0_h1) x) _ le_rfl

/-- Loop 4 stores all of columns 384 to 511. -/
theorem cover_t4 (y : S3584x512.Idx) (h : 384 ≤ (y 1).val ∧ (y 1).val < 384 + 128) :
    ∃ p ∈ pb_k0_t4 (F := F) 𝒱 c bd i arg2 harg2 arg3 harg3 arg4 harg4 arg5 harg5 arg6 harg6 arg7 harg7 k0_h1 X_arg3 X_arg7 k0_t4_loop.trips, y ∈ p.1.set :=
  have hk : (y 0).val / 256 < k0_t4_loop.trips := by have := idx2_lt0 y; rw [trips_t4]; omega
  ⟨_, pieces_mem k0_t4_loop.trips (pb_k0_t4 (F := F) 𝒱 c bd i arg2 harg2 arg3 harg3 arg4 harg4 arg5 harg5 arg6 harg6 arg7 harg7 k0_h1 X_arg3 X_arg7) _ (pb_t4_succ 𝒱 c bd i arg2 harg2 arg3 harg3 arg4 harg4 arg5 harg5 arg6 harg6 arg7 harg7 k0_h1 X_arg3 X_arg7) ⟨(y 0).val / 256, hk⟩ _ hk le_rfl,
    mem_band y 384 h (k0_off8 ⟨(y 0).val / 256, hk⟩) (k0_off8_eq _) (k0_off8_inb i _ k0_h1)⟩

/-- After the four loops, whatever the weight scratch held before, it holds the decoded array. -/
theorem read_bands (f : BufTy.Contents (Elt F) arg6.view.ty) :
    arg6.view.read (Elt F) (arg6.view.writes (Elt F) f
      (pb_k0_t4 (F := F) 𝒱 c bd i arg2 harg2 arg3 harg3 arg4 harg4 arg5 harg5 arg6 harg6 arg7 harg7 k0_h1 X_arg3 X_arg7 k0_t4_loop.trips ++ (pb_k0_t3 (F := F) 𝒱 c bd i arg2 harg2 arg3 harg3 arg4 harg4 arg5 harg5 arg6 harg6 arg7 harg7 k0_h1 X_arg3 X_arg7 k0_t3_loop.trips
        ++ (pb_k0_t2 (F := F) 𝒱 c bd i arg2 harg2 arg3 harg3 arg4 harg4 arg5 harg5 arg6 harg6 arg7 harg7 k0_h1 X_arg3 X_arg7 k0_t2_loop.trips ++ pb_k0_t1 (F := F) 𝒱 c bd i arg2 harg2 arg3 harg3 arg4 harg4 arg5 harg5 arg6 harg6 arg7 harg7 k0_h1 X_arg3 X_arg7 k0_t1_loop.trips))))
      = decoded (arg3.view.read (Elt F) X_arg3) (arg7.view.read (Elt F) X_arg7) := by
  funext y
  refine View.read_writes_apply_of_pieces _ _ _ _ ?_ y ?_
  · intro p hp
    rcases List.mem_append.mp hp with h | h
    · exact agree_t4 𝒱 c bd i arg2 harg2 arg3 harg3 arg4 harg4 arg5 harg5 arg6 harg6 arg7 harg7 k0_h1 X_arg3 X_arg7 p h
    rcases List.mem_append.mp h with h | h
    · exact agree_t3 𝒱 c bd i arg2 harg2 arg3 harg3 arg4 harg4 arg5 harg5 arg6 harg6 arg7 harg7 k0_h1 X_arg3 X_arg7 p h
    rcases List.mem_append.mp h with h | h
    · exact agree_t2 𝒱 c bd i arg2 harg2 arg3 harg3 arg4 harg4 arg5 harg5 arg6 harg6 arg7 harg7 k0_h1 X_arg3 X_arg7 p h
    · exact agree_t1 𝒱 c bd i arg2 harg2 arg3 harg3 arg4 harg4 arg5 harg5 arg6 harg6 arg7 harg7 k0_h1 X_arg3 X_arg7 p h
  · have hy : (y 1).val < 512 := idx2_lt1 y
    by_cases h3 : 384 ≤ (y 1).val
    · obtain ⟨p, hp, h⟩ := cover_t4 𝒱 c bd i arg2 harg2 arg3 harg3 arg4 harg4 arg5 harg5 arg6 harg6 arg7 harg7 k0_h1 X_arg3 X_arg7 y ⟨h3, by omega⟩
      exact ⟨p, List.mem_append_left _ hp, h⟩
    by_cases h2 : 256 ≤ (y 1).val
    · obtain ⟨p, hp, h⟩ := cover_t3 𝒱 c bd i arg2 harg2 arg3 harg3 arg4 harg4 arg5 harg5 arg6 harg6 arg7 harg7 k0_h1 X_arg3 X_arg7 y ⟨h2, by omega⟩
      exact ⟨p, List.mem_append_right _ (List.mem_append_left _ hp), h⟩
    by_cases h1 : 128 ≤ (y 1).val
    · obtain ⟨p, hp, h⟩ := cover_t2 𝒱 c bd i arg2 harg2 arg3 harg3 arg4 harg4 arg5 harg5 arg6 harg6 arg7 harg7 k0_h1 X_arg3 X_arg7 y ⟨h1, by omega⟩
      exact ⟨p, List.mem_append_right _ (List.mem_append_right _ (List.mem_append_left _ hp)), h⟩
    · obtain ⟨p, hp, h⟩ := cover_t1 𝒱 c bd i arg2 harg2 arg3 harg3 arg4 harg4 arg5 harg5 arg6 harg6 arg7 harg7 k0_h1 X_arg3 X_arg7 y ⟨Nat.zero_le _, by omega⟩
      exact ⟨p, List.mem_append_right _ (List.mem_append_right _ (List.mem_append_right _ hp)), h⟩

end Cert.KernelIdeal.Hand

end
-- ==== Proof.Ideal.Body.lean ====
/- The body's run: where it decodes, and where it uses what an earlier point decoded. Its output block is the product of
   its 768 rows of the first operand and the decoded weights. -/
module

public import proofs.«01_k».proof.Proof.Ideal.Bands
public import proofs.«01_k».proof.Proof.Gen.KernelIdeal.Frame

@[expose] public section

set_option maxRecDepth 16384

noncomputable section

namespace Cert.KernelIdeal.Hand

open Cert.KernelIdeal Cert.KernelIdeal.Gen
open Idealize.ShloMosaic hiding ix2 eq_ix2
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body decodes: the second grid coordinate is zero. -/
abbrev cond0_0 (i : grid0.Coords) : Prop := k0_cond1 i = 1#1
/-- It holds at the points that are multiples of eight. -/
theorem hcond0_0 : ∀ t : Fin cfg0.N, cond0_0 (grid0.coords t) ↔ t.val % 8 = 0 :=
  (fun t => by
    have ht : t.val < 296 := Nat.lt_of_lt_of_eq t.isLt N_0
    have e0 : (grid0.coords t 0).val = t.val / 8 % 37 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The buffers the body is given -/

/-- Each window's buffer at point `t`, and that it is whole. -/
abbrev ms0_0 (t : Fin cfg0.N) : Memref sig .tc .vmem S6144x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x512 .bf16 := win0_3.stage (cfg0.slots t 3)
abbrev hs0_3 (t : Fin cfg0.N) : (ms0_3 t).IsWhole := hstage0_3 ((cfg0.slots t 3).cast nbuf0_3)
/-- The two scratch buffers. -/
abbrev scM0_0 : Memref sig .tc .vmem S3584x512 .bf16 := Memref.whole cc0_scratch0
abbrev scM0_1 : Memref sig .tc .vmem S512x128 .f32 := Memref.whole cc0_scratch1

/-- What is held beside the windows' buffers: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The output block at grid coordinates `i`: rows `768 · i 1` to `768 · i 1 + 767` of `x0`, times the weights `w`. -/
def prod (i : grid0.Coords) (x0 : Vec F S6144x3584 .bf16) (w : Vec F S3584x512 .bf16) : Vec F S768x512 .bf16 :=
  k0_pay7 (View.ld (Val := Elt F) x0 (Rect.unit (s := S6144x3584) (k0_off9 i) S768x3584.size (k0_off9_inb i))) w

/-- The two stores into the table scratch, zeros and then the sixteen columns of the given table, leave it at `table`. -/
theorem read_table (arg7 : Memref sig .tc .vmem S512x128 .f32) (f : BufTy.Contents (Elt F) arg7.view.ty) (x2 : Vec F S512x16 .bf16)
    (v : Vec F S512x16 .f32) (hv : v = k0_pay2 x2) :
    arg7.view.read (Elt F) (arg7.view.writes (Elt F) f
      [⟨Rect.unit (s := S512x128) ![0, 0] S512x16.size inb_S512x128_S512x16_0_0, v⟩,
        ⟨Rect.unit (s := S512x128) ![0, 0] S512x128.size inb_S512x128_S512x128_0_0, k0_pay1⟩]) = table x2 := by
  subst hv
  funext y
  unfold table
  by_cases h : (y 1).val < 16
  · rw [dif_pos h]
    refine View.read_writes_cons_hit_of_coords _ _ (Rect.unit (s := S512x128) ![0, 0] S512x16.size inb_S512x128_S512x16_0_0) _ _
      (ix2 ⟨(y 0).val, idx2_lt0 y⟩ ⟨(y 1).val, h⟩) y fun a => ?_
    match a with
    | ⟨0, _⟩ => show (y 0).val = 0 + 1 * (y 0).val; omega
    | ⟨1, _⟩ => show (y 1).val = 0 + 1 * (y 1).val; omega
  · rw [dif_neg h, View.read_writes_cons_miss_of_axis _ _ _ _ y 1 0 16 rfl rfl rfl (Or.inr (by omega))]
    refine View.read_writes_cons_hit_of_coords _ _ (Rect.unit (s := S512x128) ![0, 0] S512x128.size inb_S512x128_S512x128_0_0) _ _ y y fun a => ?_
    match a with
    | ⟨0, _⟩ => show (y 0).val = 0 + 1 * (y 0).val; omega
    | ⟨1, _⟩ => show (y 1).val = 0 + 1 * (y 1).val; omega

theorem hz : (![0, 0] : Fin 2 → Nat) = fun _ => 0 := funext fun a => by fin_cases a <;> rfl

/-- The one store into the output's buffer leaves it at its payload. -/
theorem read_out (arg5 : Memref sig .tc .vmem S768x512 .bf16) (f : BufTy.Contents (Elt F) arg5.view.ty) (v : Vec F S768x512 .bf16) :
    arg5.view.read (Elt F) (arg5.view.writes (Elt F) f
      [⟨Rect.unit (s := S768x512) ![0, 0] S768x512.size inb_S768x512_S768x512_0_0, v⟩]) = v := by
  funext y
  refine View.read_writes_cons_hit_of_coords _ _ (Rect.unit (s := S768x512) ![0, 0] S768x512.size inb_S768x512_S768x512_0_0) _ _ y y fun a => ?_
  match a with
  | ⟨0, _⟩ => show (y 0).val = 0 + 1 * (y 0).val; omega
  | ⟨1, _⟩ => show (y 1).val = 0 + 1 * (y 1).val; omega

set_option maxHeartbeats 1000000 in
/-- Where the body decodes: the weight scratch ends at the decoded array of the codes' block and the table's, and the output's
    buffer at the product with it. -/
theorem run_A (c : Dev nD) (i : grid0.Coords) (arg2 : Memref sig .tc .vmem S6144x3584 .bf16) (harg2 : arg2.IsWhole) (arg3 : Memref sig .tc .vmem S512x1792 .i8) (harg3 : arg3.IsWhole)
    (arg4 : Memref sig .tc .vmem S512x16 .bf16) (harg4 : arg4.IsWhole) (arg5 : Memref sig .tc .vmem S768x512 .bf16) (harg5 : arg5.IsWhole)
    (arg6 : Memref sig .tc .vmem S3584x512 .bf16) (harg6 : arg6.IsWhole) (arg7 : Memref sig .tc .vmem S512x128 .f32) (harg7 : arg7.IsWhole) (hc0 : cond0_0 i)
    (x0 : Vec F S6144x3584 .bf16) (x1 : Vec F S512x1792 .i8) (x2 : Vec F S512x16 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (prod i x0 (decoded x1 (table x2))) ∗ owns (c : Thread nD τ) arg6 fullShare (decoded x1 (table x2)) ∗ (∃ d, owns (c : Thread nD τ) arg7 fullShare d)) -∗ K ⟨⟩))
      ⊢ wp frame (wpE (defs₀ (F := F)) Variants.none c none) E (cc0_any4_linear i arg2 harg2 arg3 harg3 arg4 harg4 arg5 harg5 arg6 harg6 arg7 harg7) K := by
  simp only [cc0_any4_linear_eq_skeleton]; unfold cc0_any4_linear_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have hT : arg7.view.read (Elt F) (arg7.view.writes (Elt F) arg7.view.junk
      [⟨Rect.unit (s := S512x128) ![0, 0] S512x16.size inb_S512x128_S512x16_0_0,
          k0_pay2 (arg4.view.readAt (Elt F) (Rect.unit (s := S512x16) ![0, 0] S512x16.size inb_S512x16_S512x16_0_0).toLoadRect (harg4.unread x2))⟩,
        ⟨Rect.unit (s := S512x128) ![0, 0] S512x128.size inb_S512x128_S512x128_0_0, k0_pay1⟩]) = table x2 :=
    read_table arg7 _ x2 _ (by rw [View.readAt_eq_ld, harg4.read_unread]; exact congrArg k0_pay2 (View.ld_unit_zero (S := S512x16) hz _ _))
  have hW := read_bands Variants.none c none i arg2 harg2 arg3 harg3 arg4 harg4 arg5 harg5 arg6 harg6 arg7 harg7 hc0 (harg3.unread x1) (arg7.view.writes (Elt F) arg7.view.junk
      [⟨Rect.unit (s := S512x128) ![0, 0] S512x16.size inb_S512x128_S512x16_0_0,
          k0_pay2 (arg4.view.readAt (Elt F) (Rect.unit (s := S512x16) ![0, 0] S512x16.size inb_S512x16_S512x16_0_0).toLoadRect (harg4.unread x2))⟩,
        ⟨Rect.unit (s := S512x128) ![0, 0] S512x128.size inb_S512x128_S512x128_0_0, k0_pay1⟩]) fs0
  rw [hT, harg3.read_unread] at hW
  isplitl [H3]
  · iexists _; isplitr; swap; · iexact H3
    ipureintro
    sl_unfold_words
    rw [read_out]
    unfold prod
    rw [View.readAt_eq_ld, View.readAt_eq_ld, harg2.read_unread]
    exact congrArg (k0_pay7 _) ((View.ld_unit_zero (S := S3584x512) hz _ _).trans hW)
  isplitl [HS0]
  · iexists _; isplitr; swap; · iexact HS0
    ipureintro
    sl_unfold_words
    exact hW
  iexists _, _; isplitr; swap; · iexact HS1
  ipureintro; rfl

set_option maxHeartbeats 1000000 in
/-- Where the body does not decode: the weight scratch is read at whatever it holds and left so. -/
theorem run_B (c : Dev nD) (i : grid0.Coords) (arg2 : Memref sig .tc .vmem S6144x3584 .bf16) (harg2 : arg2.IsWhole) (arg3 : Memref sig .tc .vmem S512x1792 .i8) (harg3 : arg3.IsWhole)
    (arg4 : Memref sig .tc .vmem S512x16 .bf16) (harg4 : arg4.IsWhole) (arg5 : Memref sig .tc .vmem S768x512 .bf16) (harg5 : arg5.IsWhole)
    (arg6 : Memref sig .tc .vmem S3584x512 .bf16) (harg6 : arg6.IsWhole) (arg7 : Memref sig .tc .vmem S512x128 .f32) (harg7 : arg7.IsWhole) (hc0 : ¬cond0_0 i)
    (x0 : Vec F S6144x3584 .bf16) (x1 : Vec F S512x1792 .i8) (x2 : Vec F S512x16 .bf16) (w : Vec F S3584x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (prod i x0 w) ∗ owns (c : Thread nD τ) arg6 fullShare w ∗ (∃ d, owns (c : Thread nD τ) arg7 fullShare d)) -∗ K ⟨⟩))
      ⊢ wp frame (wpE (defs₀ (F := F)) Variants.none c none) E (cc0_any4_linear i arg2 harg2 arg3 harg3 arg4 harg4 arg5 harg5 arg6 harg6 arg7 harg7) K := by
  simp only [cc0_any4_linear_eq_skeleton]; unfold cc0_any4_linear_skel
  unfold owns
  iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [read_out]
    unfold prod
    rw [View.readAt_eq_ld, View.readAt_eq_ld, harg2.read_unread, hfs0]
    exact congrArg (k0_pay7 _) (View.ld_unit_zero (S := S3584x512) hz _ _)
  isplitl [HS0]
  · iexists _; isplitr; swap; · iexact HS0
    ipureintro
    exact hfs0
  iexists _, _; isplitr; swap; · iexact HS1
  ipureintro; rfl

end Cert.KernelIdeal.Hand

end
-- ==== Proof.Ideal.Run.lean ====
/- The launch: at the points of one column tile the weight scratch holds that tile's decoded weights from the first point
   on, so every point's output block is the product with them. -/
module

public import proofs.«01_k».proof.Proof.Ideal.Body
public import Idealize.ShloMosaic.Lib.Claim

@[expose] public section

set_option maxRecDepth 16384

noncomputable section

namespace Cert.KernelIdeal.Hand

open Cert.KernelIdeal Cert.KernelIdeal.Gen
open Idealize.ShloMosaic hiding ix2 eq_ix2
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the column tile that point `n` belongs to. -/
def base (n : ℕ) (h : n < 296) : Fin cfg0.N := ⟨n / 8 * 8, by rw [show cfg0.N = 296 from N_0]; omega⟩

theorem lt_296 (t : Fin cfg0.N) : t.val < 296 := lt_of_lt_of_eq t.isLt (show cfg0.N = 296 from N_0)

/-- The decoded weights of the column tile whose first point is `s`. -/
def wts (c : Dev nD) (s : Fin cfg0.N) : Vec F S3584x512 .bf16 := decoded (iblk m c 1 s) (table (iblk m c 2 s))

/-- What is held beside the windows' buffers before point `n`: at the start of a column tile the scratch at anything, later
    in it the weight scratch at the tile's decoded weights. -/
def inv (c : Dev nD) (n : ℕ) (hn : n ≤ 296) : sProp 𝕄 :=
  if h : n % 8 = 0 then Pipeline.ΦA spec0 c
  else iprop(iprop(owns (c : Thread nD τ) scM0_0 fullShare (wts m c (base n (by omega))) ∗ (∃ d, owns (c : Thread nD τ) scM0_1 fullShare d)) ∗ (∃ r, prngReg c r))

/-- The contents held at each point: an input's buffer at its block; after the body the output's at its block of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (grid0.coords t) (iblk m c 0 t) (wts m c (base t.val (lt_296 t)))
  Φ t := inv m c t.val (by have := t.isLt; have : cfg0.N = 296 := N_0; omega)
  q _ := fullShare
  owed _ := 0

/-- The arrays are as the region finds them. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = prod (grid0.coords t) (iblk m c 0 t) (wts m c (base t.val (lt_296 t))) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At the start of a column tile the scratch may hold anything. -/
theorem inv_start (c : Dev nD) (n : ℕ) (hn : n ≤ 296) (h : n % 8 = 0) :
    inv (F := F) m c n hn = iprop(iprop((∃ d, owns (c : Thread nD τ) scM0_0 fullShare d) ∗ (∃ d, owns (c : Thread nD τ) scM0_1 fullShare d)) ∗ (∃ r, prngReg c r)) := by
  unfold inv; rw [dif_pos h, PhiA0_eq]

/-- Later in it the weight scratch holds the tile's weights. -/
theorem inv_later (c : Dev nD) (n : ℕ) (hn : n ≤ 296) (h : ¬n % 8 = 0) :
    inv (F := F) m c n hn = iprop(iprop(owns (c : Thread nD τ) scM0_0 fullShare (wts m c (base n (by omega))) ∗ (∃ d, owns (c : Thread nD τ) scM0_1 fullShare d)) ∗ (∃ r, prngReg c r)) := by
  unfold inv; rw [dif_neg h]

/-- Whatever the point, the tile's weights in the weight scratch are what is to be held before the point after it. -/
theorem inv_next (c : Dev nD) (n : ℕ) (hn : n < 296) :
    iprop(iprop(owns (c : Thread nD τ) scM0_0 fullShare (wts m c (base n hn)) ∗ (∃ d, owns (c : Thread nD τ) scM0_1 fullShare d)) ∗ (∃ r, prngReg c r))
      ⊢ inv (F := F) m c (n + 1) hn := by
  by_cases h : (n + 1) % 8 = 0
  · rw [inv_start m c _ _ h]
    iintro ⟨⟨HS0, HS1⟩, Hg⟩
    isplitl [HS0 HS1]
    · isplitl [HS0]
      · iexists _; iexact HS0
      iexact HS1
    iexact Hg
  · rw [inv_later m c _ _ h, show base (n + 1) (by omega) = base n hn from Fin.ext (by show (n + 1) / 8 * 8 = n / 8 * 8; omega)]

/-! ## The body's obligation -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the case by whether the point starts a column tile, then that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  have hN : t.val < 296 := lt_296 t
  rw [show (dats m 0 c).Φ t.castSucc = inv m c t.val (Nat.le_of_lt hN) from rfl,
    show (dats m 0 c).Φ t.succ = inv m c (t.val + 1) hN from rfl]
  by_cases h0 : t.val % 8 = 0
  · rw [inv_start m c _ _ h0]
    have hb : base t.val (lt_296 t) = t := Fin.ext (by show t.val / 8 * 8 = t.val; omega)
    iintro ⟨⟨⟨HS0, HS1⟩, Hg⟩, Ho, ⟨%d0, H0⟩, ⟨%d1, H1⟩, ⟨%d2, H2⟩, ⟨%d3, H3⟩⟩
    iapply (run_A c (grid0.coords t) _ _ _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · iapply (inv_next m c t.val hN)
      rw [hb]
      isplitl [HS0 HS1]
      · isplitl [HS0]
        · iexact HS0
        iexact HS1
      iexact Hg
    isplitl [Ho]; · iexact Ho
    isplitl [H0]; · iexact H0
    isplitl [H1]; · iexact H1
    isplitl [H2]; · iexact H2
    rw [hb]
    iexact H3
  · rw [inv_later m c _ _ h0]
    iintro ⟨⟨⟨HS0, HS1⟩, Hg⟩, Ho, ⟨%d0, H0⟩, ⟨%d1, H1⟩, ⟨%d2, H2⟩, ⟨%d3, H3⟩⟩
    iapply (run_B c (grid0.coords t) _ _ _ _ _ _ _ _ _ _ _ _ (fun h => h0 ((hcond0_0 t).mp h)) (iblk m c 0 t) (iblk m c 1 t) (iblk m c 2 t) (wts m c (base t.val hN)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · iapply (inv_next m c t.val hN)
      isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run: every execution ends with each array at what the points leave in it and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as they were and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Nibble.lean ====
/- A packed word of eight bits holds two four-bit codes. -/
module

public import Mathlib.Data.Nat.Notation

@[expose] public section

namespace Cert.Hand

/-- The four-bit code at place `p` of a packed word: the low half for an even `p`, the high half for an odd one. -/
def nibble (p : ℕ) (w : BitVec 8) : ℕ := if p % 2 = 0 then w.toNat % 16 else w.toNat / 16

/-- A code is one of sixteen. -/
theorem nibble_lt (p : ℕ) (w : BitVec 8) : nibble p w < 16 := by
  unfold nibble; have := w.isLt; split <;> omega

/-- The code at an even place. -/
theorem nibble_even {p : ℕ} (h : p % 2 = 0) (w : BitVec 8) : nibble p w = w.toNat % 16 := if_pos h

/-- The code at an odd place. -/
theorem nibble_odd {p : ℕ} (h : ¬p % 2 = 0) (w : BitVec 8) : nibble p w = w.toNat / 16 := if_neg h

end Cert.Hand

end
-- ==== Proof.Ideal.Decode.lean ====
/- The decoded weights at the ideal values, read at an index: row `r`, column `q` of a tile's weights is the tile's table at
   row `q` and the column that the code names, the low four bits of a packed word for an even row, the high four for an
   odd one. -/
module

public import proofs.«01_k».proof.Proof.Nibble
public import proofs.«01_k».proof.Proof.Ideal.Blocks
public import Idealize.ShloMosaic.Lib.Pointwise
public import Idealize.ShloMosaic.Lib.ValueIdx

@[expose] public section

set_option maxRecDepth 16384

noncomputable section

open Idealize.ShloMosaic hiding ix2 eq_ix2
open Idealize.ShloMosaic.ValueIdx

namespace Cert.KernelIdeal.Hand

open Cert.Hand Cert.KernelIdeal Cert.KernelIdeal.Gen

/-- The kernel's reckoning of a low code on one word. -/
theorem low_word (w : BitVec 8) :
    (Scalar.select (Scalar.cmpi .slt (w.setWidth 32 &&& 15#32) 0#32) ((w.setWidth 32 &&& 15#32) + 128#32) (w.setWidth 32 &&& 15#32)).toNat % 128
      = w.toNat % 16 := by
  revert w; decide +kernel

/-- The kernel's reckoning of a high code on one word. -/
theorem high_word (w : BitVec 8) :
    (Scalar.select (Scalar.cmpi .slt (Scalar.shrui (w.setWidth 32) 4#32) 0#32) (Scalar.shrui (w.setWidth 32) 4#32 + 128#32) (Scalar.shrui (w.setWidth 32) 4#32)).toNat % 128
      = w.toNat / 16 := by
  revert w; decide +kernel

/-- The kernel's low codes: the low four bits; wrapping a negative code round changes none, for none is negative. -/
def lowCodes (v : Vec Ideal S128x128 .i8) : IVec S128x128 32 :=
  select (cmpi .slt (andi (extui 32 v natLt_8_32) (broadcast S128x128 15#32)) (broadcast S128x128 0#32))
    (addi (andi (extui 32 v natLt_8_32) (broadcast S128x128 15#32)) (broadcast S128x128 128#32))
    (andi (extui 32 v natLt_8_32) (broadcast S128x128 15#32))

/-- The kernel's high codes: the high four bits. -/
def highCodes (v : Vec Ideal S128x128 .i8) : IVec S128x128 32 :=
  select (cmpi .slt (shrui (extui 32 v natLt_8_32) (broadcast S128x128 4#32)) (broadcast S128x128 0#32))
    (addi (shrui (extui 32 v natLt_8_32) (broadcast S128x128 4#32)) (broadcast S128x128 128#32))
    (shrui (extui 32 v natLt_8_32) (broadcast S128x128 4#32))

/-- The kernel's low code at an index. -/
theorem low_code (v : Vec Ideal S128x128 .i8) (z : S128x128.Idx) : (lowCodes v z).toNat % 128 = (v z).toNat % 16 :=
  low_word (v z)

/-- The kernel's high code at an index. -/
theorem high_code (v : Vec Ideal S128x128 .i8) (z : S128x128.Idx) : (highCodes v z).toNat % 128 = (v z).toNat / 16 :=
  high_word (v z)

/-- A gather along the lanes, transposed, at an index. -/
theorem transpose_gather (x : Vec Ideal S128x128 .f32) (idx : IVec S128x128 32) (k q : Fin 128) :
    transpose S128x128 [1, 0] (dynamicGather 1 x idx) transposes_S128x128_p1_0_S128x128 (ix2 k q)
      = x (ix2 q ⟨(idx (ix2 q k)).toNat % 128, Nat.mod_lt _ (by decide)⟩) := by
  rw [transpose_apply _ _ _ (ix2 k q) (ix2 q k) (fun b => by
    match b with
    | ⟨0, _⟩ => rfl
    | ⟨1, _⟩ => rfl), dynamicGather_apply]
  refine congrArg x (funext fun a => Fin.ext ?_)
  match a with
  | ⟨0, _⟩ => rfl
  | ⟨1, _⟩ => rfl

/-- Two arrays interleaved by rows at an index. -/
theorem interleave_ix2 {α : Type} (lo hi : S128x128.Idx → α) (h : S256x128.Bitcasts 16 S128x128 32) (r : Fin 256) (q : Fin 128) :
    interleaveRows S256x128 lo hi h (ix2 r q)
      = if r.val % 2 = 0 then lo (ix2 ⟨r.val / 2, by omega⟩ q) else hi (ix2 ⟨r.val / 2, by omega⟩ q) := by
  rw [interleaveRows_apply]
  have e : ∀ i : S128x128.Idx, (i 0).val = r.val / 2 → (i 1).val = q.val → i = ix2 ⟨r.val / 2, by omega⟩ q := fun i h0 h1 => by
    funext a; apply Fin.ext
    match a with
    | ⟨0, _⟩ => exact h0
    | ⟨1, _⟩ => exact h1
  by_cases hr : r.val % 2 = 0
  · rw [if_pos (show Shape.row S256x128 (ix2 r q) % 2 = 0 from hr), if_pos hr]
    exact congrArg lo (e _ rfl rfl)
  · rw [if_neg (show ¬ Shape.row S256x128 (ix2 r q) % 2 = 0 from hr), if_neg hr]
    exact congrArg hi (e _ rfl rfl)

/-- One decoded block at an index. -/
theorem pay3_apply (v31 : Vec Ideal S128x128 .i8) (v32 : Vec Ideal S128x128 .f32) (r : Fin 256) (q : Fin 128) :
    k0_pay3 v31 v32 (ix2 r q)
      = v32 (ix2 q ⟨nibble r.val (v31 (ix2 q ⟨r.val / 2, by omega⟩)), by have := nibble_lt r.val (v31 (ix2 q ⟨r.val / 2, by omega⟩)); omega⟩) := by
  have e : k0_pay3 v31 v32 = interleaveRows S256x128
      (truncf (F := Ideal) (φ := .f32) .bf16 (transpose S128x128 [1, 0] (dynamicGather 1 v32 (lowCodes v31)) transposes_S128x128_p1_0_S128x128) bitsLt_bf16_f32)
      (truncf (F := Ideal) (φ := .f32) .bf16 (transpose S128x128 [1, 0] (dynamicGather 1 v32 (highCodes v31)) transposes_S128x128_p1_0_S128x128) bitsLt_bf16_f32)
      bitcasts_S256x128_w16_S128x128_w32 := by
    unfold k0_pay3
    simp only [shapeCast_self, shapeCast_shapeCast]
    rfl
  rw [e, interleave_ix2]
  by_cases hr : r.val % 2 = 0
  · rw [if_pos hr, ValueIdx.truncf_apply, transpose_gather]
    refine congrArg (fun k => v32 (ix2 q k)) (Fin.ext ?_)
    exact (low_code v31 _).trans (nibble_even hr _).symm
  · rw [if_neg hr, ValueIdx.truncf_apply, transpose_gather]
    refine congrArg (fun k => v32 (ix2 q k)) (Fin.ext ?_)
    exact (high_code v31 _).trans (nibble_odd hr _).symm

/-- A tile's decoded weights at an index. -/
theorem decoded_apply (x1 : Vec Ideal S512x1792 .i8) (x2 : Vec Ideal S512x16 .bf16) (r : Fin 3584) (q : Fin 512) :
    decoded x1 (table x2) (ix2 r q)
      = x2 (ix2 q ⟨nibble r.val (x1 (ix2 q ⟨r.val / 2, by omega⟩)), nibble_lt _ _⟩) := by
  unfold decoded
  rw [pay3_apply]
  have e1 : (ix2 (⟨q.val / 128 * 128 + q.val % 128, by omega⟩ : Fin 512) (⟨r.val / 256 * 128 + r.val % 256 / 2, by omega⟩ : Fin 1792))
      = ix2 q ⟨r.val / 2, by omega⟩ := by
    funext a; apply Fin.ext
    match a with
    | ⟨0, _⟩ => show q.val / 128 * 128 + q.val % 128 = q.val; omega
    | ⟨1, _⟩ => show r.val / 256 * 128 + r.val % 256 / 2 = r.val / 2; omega
  have e2 : ∀ w, nibble (r.val % 256) w = nibble r.val w := fun w => by
    unfold nibble; rw [show r.val % 256 % 2 = r.val % 2 by omega]
  unfold table
  rw [dif_pos (nibble_lt _ _)]
  unfold k0_pay2
  simp only [shapeCast_self]
  rw [ValueIdx.extf_apply]
  refine congrArg x2 (funext fun a => Fin.ext ?_)
  match a with
  | ⟨0, _⟩ => show q.val / 128 * 128 + q.val % 128 = q.val; omega
  | ⟨1, _⟩ => exact (e2 _).trans (congrArg (fun i => nibble r.val (x1 i)) e1)

end Cert.KernelIdeal.Hand

end
-- ==== Proof.Ideal.Value.lean ====
/- What the result array holds after the launch, at the ideal values: at row `r` and column `n` the sum over the 3584 features
   of the activation times the decoded weight. -/
module

public import proofs.«01_k».proof.Proof.Ideal.Run
public import proofs.«01_k».proof.Proof.Ideal.Decode
public import Idealize.ShloMosaic.Lib.MatmulPlain
public import Idealize.ShloMosaic.Lib.Pipeline.Value

@[expose] public section

set_option maxRecDepth 16384

noncomputable section

open Idealize.ShloMosaic hiding ix2 eq_ix2
open Idealize.ShloMosaic.ValueIdx
open Idealize.ShloMosaic.TcCoe Idealize.SL.Sem
open Idealize.ShloMosaic.Pipeline (Dat)

namespace Cert.KernelIdeal.Hand

open Cert.Hand Cert.KernelIdeal Cert.KernelIdeal.Gen

variable (m : (ℓ : Loc nD τ sig) → Buf (Elt Ideal) ℓ) (ρ : Dev nD → PrngReg)

/-- The product of 6144 rows of activations with the weights that packed codes and a table stand for. -/
def linear (x : Vec Ideal S6144x3584 .bf16) (w : Vec Ideal S18944x1792 .i8) (tb : Vec Ideal S18944x16 .bf16) : Vec Ideal S6144x18944 .bf16 := fun i =>
  ∑ j : Fin 3584, x (ix2 ⟨(i 0).val, idx2_lt0 i⟩ j)
    * tb (ix2 ⟨(i 1).val, idx2_lt1 i⟩ ⟨nibble j.val (w (ix2 ⟨(i 1).val, idx2_lt1 i⟩ ⟨j.val / 2, by omega⟩)), nibble_lt _ _⟩)

/-- One point's product at an index. -/
theorem prod_apply (i : grid0.Coords) (x0 : Vec Ideal S6144x3584 .bf16) (w : Vec Ideal S3584x512 .bf16) (r : Fin 768) (q : Fin 512) :
    prod i x0 w (ix2 r q)
      = ∑ j : Fin 3584, x0 (ix2 ⟨768 * (i 1).val + r.val, by have : (i 1).val < 8 := (i 1).isLt; omega⟩ j) * w (ix2 j q) := by
  unfold prod k0_pay7
  simp only [shapeCast_self]
  rw [ValueIdx.truncf_apply]
  refine (Ideal.matmul_plain_apply (M := 768) (K := 3584) (N := 512) none _ w _ r q).trans ?_
  rw [show (constant S768x512 .f32 0x00000000#32 : FVec Ideal S768x512 .f32) (ix2 r q) = 0 from Ideal.ofBits_zero_f32, zero_add]
  refine Finset.sum_congr rfl fun j _ => congrArg (· * w (ix2 j q)) (congrArg x0 (funext fun a => Fin.ext ?_))
  match a with
  | ⟨0, _⟩ => show k0_off9 i 0 + 1 * r.val = _; rw [k0_off9_eq]; show 768 * (i 1).val + 1 * r.val = _; rw [Nat.one_mul]
  | ⟨1, _⟩ => show k0_off9 i 1 + 1 * j.val = _; rw [k0_off9_eq]; show 0 + 1 * j.val = j.val; omega

/-! ## The windows' blocks -/

/-- Point `t`'s column tile and row tile. -/
theorem coords_0 (t : Fin cfg0.N) : (grid0.coords t 0).val = t.val / 8 := by
  have e0 : (grid0.coords t 0).val = t.val / 8 % 37 := Pipeline.Grid.coords_val t 0 (by decide) rfl
  have := lt_296 t
  omega

theorem coords_1 (t : Fin cfg0.N) : (grid0.coords t 1).val = t.val % 8 := by
  have e1 : (grid0.coords t 1).val = t.val / 1 % 8 := Pipeline.Grid.coords_val t 1 (by decide) rfl
  omega

/-- The window of activations is the whole array at every point. -/
theorem index0 (t : Fin cfg0.N) : win0_0.index t 0 = 0 ∧ win0_0.index t 1 = 0 := ⟨rfl, rfl⟩

/-- The windows of packed codes and of the table move with the column tile. -/
theorem index1 (t : Fin cfg0.N) : win0_1.index t 0 = t.val / 8 ∧ win0_1.index t 1 = 0 := by
  refine ⟨?_, rfl⟩
  show (BitVec.ofNat 32 (grid0.coords t 0).val).toNat = _
  rw [BitVec.toNat_ofNat, coords_0]
  have := lt_296 t
  omega

theorem index2 (t : Fin cfg0.N) : win0_2.index t 0 = t.val / 8 ∧ win0_2.index t 1 = 0 := by
  refine ⟨?_, rfl⟩
  show (BitVec.ofNat 32 (grid0.coords t 0).val).toNat = _
  rw [BitVec.toNat_ofNat, coords_0]
  have := lt_296 t
  omega

/-- The window of the result moves with both. -/
theorem index3 (t : Fin cfg0.N) : win0_3.index t 0 = t.val % 8 ∧ win0_3.index t 1 = t.val / 8 := by
  have := lt_296 t
  constructor
  · show (BitVec.ofNat 32 (grid0.coords t 1).val).toNat = _
    rw [BitVec.toNat_ofNat, coords_1]
    omega
  · show (BitVec.ofNat 32 (grid0.coords t 0).val).toNat = _
    rw [BitVec.toNat_ofNat, coords_0]
    omega

theorem iblk0_apply (c : Dev nD) (t : Fin cfg0.N) (y : S6144x3584.Idx) :
    (iblk m c 0 t : Vec Ideal S6144x3584 .bf16) y = (V m c main_v0 : Vec Ideal S6144x3584 .bf16) y := by
  show (V m c main_v0 : Vec Ideal S6144x3584 .bf16) ((win0_0.rect t).emb y) = _
  refine congrArg (V m c main_v0 : Vec Ideal S6144x3584 .bf16) (funext fun a => Fin.ext ?_)
  match a with
  | ⟨0, _⟩ => show win0_0.index t 0 * 6144 + 1 * (y 0).val = (y 0).val; rw [(index0 t).1]; omega
  | ⟨1, _⟩ => show win0_0.index t 1 * 3584 + 1 * (y 1).val = (y 1).val; rw [(index0 t).2]; omega

theorem iblk1_apply (c : Dev nD) (t : Fin cfg0.N) (a : Fin 512) (b : Fin 1792) :
    (iblk m c 1 t : Vec Ideal S512x1792 .i8) (ix2 a b)
      = (V m c main_arg1 : Vec Ideal S18944x1792 .i8) (ix2 ⟨512 * (t.val / 8) + a.val, by have := lt_296 t; omega⟩ b) := by
  show (V m c main_arg1 : Vec Ideal S18944x1792 .i8) ((win0_1.rect t).emb (ix2 a b)) = _
  refine congrArg (V m c main_arg1 : Vec Ideal S18944x1792 .i8) (funext fun k => Fin.ext ?_)
  match k with
  | ⟨0, _⟩ => show win0_1.index t 0 * 512 + 1 * a.val = 512 * (t.val / 8) + a.val; rw [(index1 t).1]; omega
  | ⟨1, _⟩ => show win0_1.index t 1 * 1792 + 1 * b.val = b.val; rw [(index1 t).2]; omega

theorem iblk2_apply (c : Dev nD) (t : Fin cfg0.N) (a : Fin 512) (b : Fin 16) :
    (iblk m c 2 t : Vec Ideal S512x16 .bf16) (ix2 a b)
      = (V m c main_arg2 : Vec Ideal S18944x16 .bf16) (ix2 ⟨512 * (t.val / 8) + a.val, by have := lt_296 t; omega⟩ b) := by
  show (V m c main_arg2 : Vec Ideal S18944x16 .bf16) ((win0_2.rect t).emb (ix2 a b)) = _
  refine congrArg (V m c main_arg2 : Vec Ideal S18944x16 .bf16) (funext fun k => Fin.ext ?_)
  match k with
  | ⟨0, _⟩ => show win0_2.index t 0 * 512 + 1 * a.val = 512 * (t.val / 8) + a.val; rw [(index2 t).1]; omega
  | ⟨1, _⟩ => show win0_2.index t 1 * 16 + 1 * b.val = b.val; rw [(index2 t).2]; omega

/-! ## The result array -/

/-- The product of what the region finds: what the result array is shown to hold. -/
def whole (c : Dev nD) : Vec Ideal S6144x18944 .bf16 :=
  linear (V m c main_v0 : Vec Ideal S6144x3584 .bf16) (V m c main_arg1 : Vec Ideal S18944x1792 .i8) (V m c main_arg2 : Vec Ideal S18944x16 .bf16)

/-- Point `t`'s product is the block of the whole product at rows `768 (t mod 8)`, columns `512 (t / 8)`. -/
theorem after_apply (c : Dev nD) (t : Fin cfg0.N) (r : Fin 768) (q : Fin 512) :
    prod (grid0.coords t) (iblk m c 0 t) (wts m c (base t.val (lt_296 t))) (ix2 r q)
      = whole m c (ix2 ⟨768 * (t.val % 8) + r.val, by omega⟩ ⟨512 * (t.val / 8) + q.val, by have := lt_296 t; omega⟩) := by
  have hb : (base t.val (lt_296 t)).val / 8 = t.val / 8 := by show t.val / 8 * 8 / 8 = _; omega
  rw [prod_apply]
  unfold whole linear
  refine Finset.sum_congr rfl fun j _ => ?_
  unfold wts
  rw [decoded_apply, iblk0_apply, iblk2_apply]
  refine congrArg₂ (· * ·) (congrArg (V m c main_v0 : Vec Ideal S6144x3584 .bf16) (funext fun a => Fin.ext ?_))
    (congrArg (V m c main_arg2 : Vec Ideal S18944x16 .bf16) (funext fun a => Fin.ext ?_))
  · match a with
    | ⟨0, _⟩ => show 768 * (grid0.coords t 1).val + r.val = 768 * (t.val % 8) + r.val; rw [coords_1]
    | ⟨1, _⟩ => rfl
  · match a with
    | ⟨0, _⟩ => show 512 * ((base t.val (lt_296 t)).val / 8) + q.val = 512 * (t.val / 8) + q.val; rw [hb]
    | ⟨1, _⟩ =>
      refine congrArg (nibble j.val) ((iblk1_apply m c _ q _).trans
        (congrArg (V m c main_arg1 : Vec Ideal S18944x1792 .i8) (funext fun k => Fin.ext ?_)))
      match k with
      | ⟨0, _⟩ => show 512 * ((base t.val (lt_296 t)).val / 8) + q.val = 512 * (t.val / 8) + q.val; rw [hb]
      | ⟨1, _⟩ => rfl

/-- What point `t` writes back is its block of the whole product. -/
theorem flushed_eq (c : Dev nD) (t : Fin cfg0.N) :
    (dats m 0 c).flushed 3 t = (win0_3.blk t).view.read (Elt Ideal) (whole m c) := by
  show (cfg0.win 3).cut (grid0.coords t) ((dats m 0 c).after 3 t) = _
  rw [after0_3]
  funext y
  show prod (grid0.coords t) (iblk m c 0 t) (wts m c (base t.val (lt_296 t))) y = whole m c ((win0_3.rect t).emb y)
  refine (congrArg (prod (grid0.coords t) (iblk m c 0 t) (wts m c (base t.val (lt_296 t)))) (eq_ix2 (n0 := 768) (n1 := 512) y)).trans
    ((after_apply m c t (y 0) (y 1)).trans ?_)
  refine congrArg (whole m c) (funext fun a => Fin.ext ?_)
  match a with
  | ⟨0, _⟩ => show 768 * (t.val % 8) + (y 0).val = win0_3.index t 0 * 768 + 1 * (y 0).val; rw [(index3 t).1]; omega
  | ⟨1, _⟩ => show 512 * (t.val / 8) + (y 1).val = win0_3.index t 1 * 512 + 1 * (y 1).val; rw [(index3 t).2]; omega

/-- The blocks cover the result. -/
theorem cover (i : S6144x18944.Idx) :
    ∃ t : Fin cfg0.N, (cfg0.win 3).flush t = true ∧ i ∈ ((cfg0.win 3).blk t).view.set := by
  have h0 : (i 0).val < 6144 := idx2_lt0 i
  have h1 : (i 1).val < 18944 := idx2_lt1 i
  have hN : cfg0.N = 296 := N_0
  let t : Fin cfg0.N := ⟨(i 1).val / 512 * 8 + (i 0).val / 768, by omega⟩
  have ht : t.val = (i 1).val / 512 * 8 + (i 0).val / 768 := rfl
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 768 ≤ (i 0).val ∧ (i 0).val < win0_3.index t 0 * 768 + 768
    rw [(index3 t).1]; omega
  | ⟨1, _⟩ =>
    show win0_3.index t 1 * 512 ≤ (i 1).val ∧ (i 1).val < win0_3.index t 1 * 512 + 512
    rw [(index3 t).2]; omega

/-- So the result array ends holding the whole product. -/
theorem final (c : Dev nD) : (dats m 0 c).arrAt 3 cfg0.N = whole m c :=
  (dats m 0 c).arrAt_eq_of_cover 3 (whole m c) (fun t _ => flushed_eq m c t) cover

/-- The run, read: the result array at the whole product, the arguments unchanged. -/
theorem run : θ_run defs (onTc (τ := τ) (main (F := Ideal))) ⟨m, fun _ => 0, ρ⟩ fun r => ∀ c : Dev nD,
      r.2.mem ((c.tc : Thread nD τ).loc main_v1) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩)
    (θ_run_and (run_main m ρ) (unchanged m ρ))

end Cert.KernelIdeal.Hand

end
-- ==== Proof.Reference.Weights.lean ====
/- The reference's weights, read at an index: four selections among the table's sixteen columns, one per bit of the code,
   are the column that the code names. -/
module

public import proofs.«01_k».proof.Proof.Nibble
public import proofs.«01_k».proof.Proof.Gen.ReferenceIdeal
public import Idealize.ShloMosaic.Lib.ValueIdx
public import Idealize.ShloMosaic.Lib.Pipeline.Value

@[expose] public section

set_option maxRecDepth 16384

noncomputable section

open Idealize.ShloMosaic
open Idealize.ShloMosaic.ValueIdx

namespace Cert.ReferenceIdeal.Hand

open Cert.Hand Cert.ReferenceIdeal Cert.ReferenceIdeal.Gen

/-- The low codes, then the high codes, along a new middle axis. -/
def codes (w : Vec Ideal S18944x1792 .i8) : IVec S18944x2x1792 32 :=
  concatenate S18944x2x1792 1 [⟨S18944x1x1792, (broadcastInDim S18944x1x1792 ![0, 2] bcast_S18944x1792_S18944x1x1792_0_2 (andi (extui 32 w natLt_8_32) (broadcastInDim S18944x1792 ![] bcast_S_S18944x1792 (constantI S_ 32 15#32))))⟩, ⟨S18944x1x1792, (broadcastInDim S18944x1x1792 ![0, 2] bcast_S18944x1792_S18944x1x1792_0_2 (Host.shrsi (extui 32 w natLt_8_32) (broadcastInDim S18944x1792 ![] bcast_S_S18944x1792 (constantI S_ 32 4#32))))⟩] concatenates_S18944x1x1792_S18944x1x1792_S18944x2x1792_d1

/-- Whether bit `b` of each code is set. -/
def bit (w : Vec Ideal S18944x1792 .i8) (b : BitVec 32) : IVec S18944x2x1792 1 :=
  cmpi .eq (andi (Host.shrsi (codes w) (broadcastInDim S18944x2x1792 ![] bcast_S_S18944x2x1792 (constantI S_ 32 b))) (broadcastInDim S18944x2x1792 ![] bcast_S_S18944x2x1792 (constantI S_ 32 1#32))) (broadcastInDim S18944x2x1792 ![] bcast_S_S18944x2x1792 (constantI S_ 32 1#32))

/-- The codes at an index. -/
theorem codes_apply (w : Vec Ideal S18944x1792 .i8) (n : Fin 18944) (p : Fin 2) (k : Fin 1792) :
    codes w (ix3 n p k) = if p.val % 2 = 0 then (w (ix2 n k)).setWidth 32 &&& 15#32
      else IntOp.shrsi .host ((w (ix2 n k)).setWidth 32) 4#32 := by
  have hb : ∀ (x : IVec S18944x1792 32) (z : Fin 1), broadcastInDim S18944x1x1792 ![0, 2] bcast_S18944x1792_S18944x1x1792_0_2 x (ix3 n z k) = x (ix2 n k) :=
    fun x z => broadcastInDim_apply _ _ _ _ _ (fun a => by
      match a with
      | ⟨0, _⟩ => rfl
      | ⟨1, _⟩ => rfl)
  unfold codes
  by_cases hp : p.val % 2 = 0
  · rw [if_pos hp, concatenate_pair_apply_left (t := S18944x2x1792) (s₁ := S18944x1x1792) (s₂ := S18944x1x1792) _ _ _ _ (ix3 n p k) rfl (ix3 n 0 k) (fun b => by
      match b with
      | ⟨0, _⟩ => rfl
      | ⟨1, _⟩ => show 0 = p.val; omega
      | ⟨2, _⟩ => rfl), hb]
    rfl
  · rw [if_neg hp, concatenate_pair_apply_right (t := S18944x2x1792) (s₁ := S18944x1x1792) (s₂ := S18944x1x1792) _ _ _ _ (ix3 n p k) rfl rfl (ix3 n 0 k) (fun b hb => by
      match b with
      | ⟨0, _⟩ => rfl
      | ⟨1, _⟩ => exact absurd rfl hb
      | ⟨2, _⟩ => rfl) (by show 0 + 1 = p.val; omega), hb]
    rfl

/-- One bit of a low code, on one word. -/
theorem low_bit (b : Fin 4) (v : BitVec 8) :
    Scalar.cmpi .eq (IntOp.shrsi .host (v.setWidth 32 &&& 15#32) (BitVec.ofNat 32 b.val) &&& 1#32) 1#32
      = BitVec.ofBool ((v.toNat % 16).testBit b.val) := by
  revert b v; decide +kernel

/-- One bit of a high code, on one word. -/
theorem high_bit (b : Fin 4) (v : BitVec 8) :
    Scalar.cmpi .eq (IntOp.shrsi .host (IntOp.shrsi .host (v.setWidth 32) 4#32) (BitVec.ofNat 32 b.val) &&& 1#32) 1#32
      = BitVec.ofBool ((v.toNat / 16).testBit b.val) := by
  revert b v; decide +kernel

/-- Each bit at an index. -/
theorem bit_apply (w : Vec Ideal S18944x1792 .i8) (b : Fin 4) (n : Fin 18944) (p : Fin 2) (k : Fin 1792) :
    bit w (BitVec.ofNat 32 b.val) (ix3 n p k) = BitVec.ofBool ((nibble p.val (w (ix2 n k))).testBit b.val) := by
  show Scalar.cmpi .eq (IntOp.shrsi .host (codes w (ix3 n p k)) (BitVec.ofNat 32 b.val) &&& 1#32) 1#32 = _
  rw [codes_apply]
  by_cases hp : p.val % 2 = 0
  · rw [if_pos hp, nibble_even hp, low_bit]
  · rw [if_neg hp, nibble_odd hp, high_bit]

/-- Column `j` of the table, laid over the weights. -/
def col (tb : Vec Ideal S18944x16 .bf16) (j : ℕ) (h : S18944x16.Slices ![0, j] S18944x1) : Vec Ideal S18944x2x1792 .bf16 :=
  broadcastInDim S18944x2x1792 ![0, 1, 2] bcast_S18944x1x1_S18944x2x1792_0_1_2 (broadcastInDim S18944x1x1 ![0, 2] bcast_S18944x1_S18944x1x1_0_2 (extractStridedSlice S18944x1 ![0, j] tb h))

/-- A column at an index. -/
theorem col_apply (tb : Vec Ideal S18944x16 .bf16) (j : ℕ) (h : S18944x16.Slices ![0, j] S18944x1) (hj : j < 16) (n : Fin 18944) (p : Fin 2) (k : Fin 1792) :
    col tb j h (ix3 n p k) = tb (ix2 n ⟨j, hj⟩) := by
  unfold col
  rw [broadcastInDim_apply (t := S18944x2x1792) (s := S18944x1x1) _ _ _ _ (ix3 n 0 0) (fun a => by
      match a with
      | ⟨0, _⟩ => rfl
      | ⟨1, _⟩ => rfl
      | ⟨2, _⟩ => rfl),
    broadcastInDim_apply (t := S18944x1x1) (s := S18944x1) _ _ _ _ (ix2 n 0) (fun a => by
      match a with
      | ⟨0, _⟩ => rfl
      | ⟨1, _⟩ => rfl),
    extractStridedSlice_apply (t := S18944x1) (s := S18944x16) _ _ _ _ (ix2 n ⟨j, hj⟩) (fun a => by
      match a with
      | ⟨0, _⟩ => show n.val = 0 + n.val; omega
      | ⟨1, _⟩ => show j = j + 0; omega)]

/-- The reference's weights: the columns selected by the four bits in turn. -/
def weights (w : Vec Ideal S18944x1792 .i8) (tb : Vec Ideal S18944x16 .bf16) : Vec Ideal S18944x2x1792 .bf16 :=
  select (bit w 3#32) (select (bit w 2#32) (select (bit w 1#32) (select (bit w 0#32) (col tb 15 slices_S18944x16_S18944x1_0_15) (col tb 14 slices_S18944x16_S18944x1_0_14)) (select (bit w 0#32) (col tb 13 slices_S18944x16_S18944x1_0_13) (col tb 12 slices_S18944x16_S18944x1_0_12))) (select (bit w 1#32) (select (bit w 0#32) (col tb 11 slices_S18944x16_S18944x1_0_11) (col tb 10 slices_S18944x16_S18944x1_0_10)) (select (bit w 0#32) (col tb 9 slices_S18944x16_S18944x1_0_9) (col tb 8 slices_S18944x16_S18944x1_0_8)))) (select (bit w 2#32) (select (bit w 1#32) (select (bit w 0#32) (col tb 7 slices_S18944x16_S18944x1_0_7) (col tb 6 slices_S18944x16_S18944x1_0_6)) (select (bit w 0#32) (col tb 5 slices_S18944x16_S18944x1_0_5) (col tb 4 slices_S18944x16_S18944x1_0_4))) (select (bit w 1#32) (select (bit w 0#32) (col tb 3 slices_S18944x16_S18944x1_0_3) (col tb 2 slices_S18944x16_S18944x1_0_2)) (select (bit w 0#32) (col tb 1 slices_S18944x16_S18944x1_0_1) (col tb 0 slices_S18944x16_S18944x1_0_0))))

/-- Four selections among sixteen values, by the bits of a code, give the value the code names. -/
theorem tree_apply {α : Type} (f : Fin 16 → α) (c : Fin 16) :
    (Scalar.select (BitVec.ofBool (c.val.testBit 3)) (Scalar.select (BitVec.ofBool (c.val.testBit 2)) (Scalar.select (BitVec.ofBool (c.val.testBit 1)) (Scalar.select (BitVec.ofBool (c.val.testBit 0)) (f 15) (f 14)) (Scalar.select (BitVec.ofBool (c.val.testBit 0)) (f 13) (f 12))) (Scalar.select (BitVec.ofBool (c.val.testBit 1)) (Scalar.select (BitVec.ofBool (c.val.testBit 0)) (f 11) (f 10)) (Scalar.select (BitVec.ofBool (c.val.testBit 0)) (f 9) (f 8)))) (Scalar.select (BitVec.ofBool (c.val.testBit 2)) (Scalar.select (BitVec.ofBool (c.val.testBit 1)) (Scalar.select (BitVec.ofBool (c.val.testBit 0)) (f 7) (f 6)) (Scalar.select (BitVec.ofBool (c.val.testBit 0)) (f 5) (f 4))) (Scalar.select (BitVec.ofBool (c.val.testBit 1)) (Scalar.select (BitVec.ofBool (c.val.testBit 0)) (f 3) (f 2)) (Scalar.select (BitVec.ofBool (c.val.testBit 0)) (f 1) (f 0))))) = f c := by
  fin_cases c <;> rfl

/-- The reference's weights at an index. -/
theorem weights_apply (w : Vec Ideal S18944x1792 .i8) (tb : Vec Ideal S18944x16 .bf16) (n : Fin 18944) (p : Fin 2) (k : Fin 1792) :
    weights w tb (ix3 n p k) = tb (ix2 n ⟨nibble p.val (w (ix2 n k)), nibble_lt _ _⟩) := by
  refine Eq.trans ?_ (tree_apply (fun j => tb (ix2 n j)) ⟨nibble p.val (w (ix2 n k)), nibble_lt _ _⟩)
  have hb := fun b => bit_apply w b n p k
  unfold weights
  simp only [select_apply]
  rw [show bit w 0#32 (ix3 n p k) = _ from hb 0, show bit w 1#32 (ix3 n p k) = _ from hb 1,
    show bit w 2#32 (ix3 n p k) = _ from hb 2, show bit w 3#32 (ix3 n p k) = _ from hb 3]
  rw [col_apply tb 15 _ (by decide), col_apply tb 14 _ (by decide), col_apply tb 13 _ (by decide), col_apply tb 12 _ (by decide), col_apply tb 11 _ (by decide), col_apply tb 10 _ (by decide), col_apply tb 9 _ (by decide), col_apply tb 8 _ (by decide), col_apply tb 7 _ (by decide), col_apply tb 6 _ (by decide), col_apply tb 5 _ (by decide), col_apply tb 4 _ (by decide), col_apply tb 3 _ (by decide), col_apply tb 2 _ (by decide), col_apply tb 1 _ (by decide), col_apply tb 0 _ (by decide)]
  rfl

end Cert.ReferenceIdeal.Hand

end
-- ==== Proof.Reference.Value.lean ====
/- The reference's result at the ideal values, read at an index: a sum over the packed words and their two places. -/
module

public import proofs.«01_k».proof.Proof.Reference.Weights
public import proofs.«01_k».proof.Proof.Gen.ReferenceIdeal.Run
public import Idealize.ShloMosaic.Lib.TwoAxisContraction
public import Idealize.ShloMosaic.PureOps.Ideal.Laws

@[expose] public section

set_option maxRecDepth 16384

noncomputable section

open Idealize.ShloMosaic Idealize.ShloMosaic.TcCoe
open Idealize.ShloMosaic.ValueIdx

namespace Cert.ReferenceIdeal.Hand

open Cert.Hand Cert.ReferenceIdeal Cert.ReferenceIdeal.Gen

/-- The activations as the reference contracts them: the even features, then the odd ones. -/
def acts (x : Vec Ideal S3x2048x3584 .bf16) : Vec Ideal S3x2048x2x1792 .bf16 :=
  transpose S3x2048x2x1792 [0, 1, 3, 2] (shapeCast _ x shapeCasts_S3x2048x3584_S3x2048x1792x2) transposes_S3x2048x1792x2_S3x2048x2x1792_0_1_3_2

/-- They at an index. -/
theorem acts_apply (x : Vec Ideal S3x2048x3584 .bf16) (b : Fin 3) (s : Fin 2048) (p : Fin 2) (k : Fin 1792) :
    acts x (ix4 b s p k) = x (ix3 b s ⟨2 * k.val + p.val, by omega⟩) := by
  unfold acts
  rw [transpose_apply (s := S3x2048x1792x2) (t := S3x2048x2x1792) _ _ _ _ (ix4 b s k p) (fun a => by
      match a with
      | ⟨0, _⟩ => rfl
      | ⟨1, _⟩ => rfl
      | ⟨2, _⟩ => rfl
      | ⟨3, _⟩ => rfl),
    shapeCast_apply (s := S3x2048x3584) (t := S3x2048x1792x2) _ _ _ (ix3 b s ⟨2 * k.val + p.val, by omega⟩) (by
      rw [Shape.rowMajor_val_three, Shape.rowMajor_val_four]
      show (b.val * 2048 + s.val) * 3584 + (2 * k.val + p.val) = ((b.val * 2048 + s.val) * 1792 + k.val) * 2 + p.val
      omega)]

/-- The contraction's dimension numbers. -/
abbrev dims := dot_S3x2048x2x1792_S18944x2x1792_S3x2048x18944_32_21_01_0_n_n

/-- The contraction over two axes at an index. -/
theorem dot_apply (A : FVec Ideal S3x2048x2x1792 .bf16) (B : FVec Ideal S18944x2x1792 .bf16) (b : Fin 3) (s : Fin 2048) (n : Fin 18944) :
    (Host.dotGeneral (φ₁ := .bf16) (φ₂ := .bf16) dims none A B : FVec Ideal S3x2048x18944 .f32) (ix3 b s n)
      = ∑ k : Fin 1792, ∑ p : Fin 2, A (ix4 b s p k) * B (ix3 n p k) := by
  show FloatOps.dotGeneral _ none _ A B (ix3 b s n) = _
  rw [Ideal.dotGeneral_apply, sum_contr2 dims 1792 2 rfl rfl rfl]
  refine Finset.sum_congr rfl fun k _ => Finset.sum_congr rfl fun p _ => ?_
  have c0 := contrEquiv2_symm_val0 dims 1792 2 rfl rfl rfl (k, p)
  have c1 := contrEquiv2_symm_val1 dims 1792 2 rfl rfl rfl (k, p)
  have el : dims.lhsIdx (ix3 b s n) ((contrEquiv2 dims 1792 2 rfl rfl rfl).symm (k, p)) = ix4 b s p k := by
    funext a; apply Fin.ext
    match a with
    | ⟨0, _⟩ => rfl
    | ⟨1, _⟩ => rfl
    | ⟨2, _⟩ => exact c1
    | ⟨3, _⟩ => exact c0
  have er : dims.rhsIdx (ix3 b s n) ((contrEquiv2 dims 1792 2 rfl rfl rfl).symm (k, p)) = ix3 n p k := by
    funext a; apply Fin.ext
    match a with
    | ⟨0, _⟩ => rfl
    | ⟨1, _⟩ => exact c1
    | ⟨2, _⟩ => exact c0
  rw [el, er]

/-- The reference's function: the activations contracted with the weights, rounded, laid out in rows. -/
def value (x : Vec Ideal S3x2048x3584 .bf16) (w : Vec Ideal S18944x1792 .i8) (tb : Vec Ideal S18944x16 .bf16) : Vec Ideal S6144x18944 .bf16 :=
  shapeCast S6144x18944 (truncf .bf16 (Host.dotGeneral (φ₁ := .bf16) (φ₂ := .bf16) dims none (acts x) (weights w tb) : FVec Ideal S3x2048x18944 .f32) bitsLt_bf16_f32)
    shapeCasts_S3x2048x18944_S6144x18944

/-- What the reference's run leaves is that function of the arguments. -/
theorem result_eq (m : (ℓ : Loc nD τ sig) → Buf (Elt Ideal) ℓ) (c : Dev nD) :
    Value.res_out0 m c = value (m ((c.tc : Thread nD τ).loc main_arg0)) (m ((c.tc : Thread nD τ).loc main_arg1)) (m ((c.tc : Thread nD τ).loc main_arg2)) := rfl

/-- The reference's function at row `r`, column `n`. -/
theorem value_apply (x : Vec Ideal S3x2048x3584 .bf16) (w : Vec Ideal S18944x1792 .i8) (tb : Vec Ideal S18944x16 .bf16) (r : Fin 6144) (n : Fin 18944) :
    value x w tb (ix2 r n)
      = ∑ k : Fin 1792, ∑ p : Fin 2, x (ix3 ⟨r.val / 2048, by omega⟩ ⟨r.val % 2048, by omega⟩ ⟨2 * k.val + p.val, by omega⟩)
            * tb (ix2 n ⟨nibble p.val (w (ix2 n k)), nibble_lt _ _⟩) := by
  unfold value
  rw [shapeCast_apply (s := S3x2048x18944) (t := S6144x18944) _ _ _ (ix3 ⟨r.val / 2048, by omega⟩ ⟨r.val % 2048, by omega⟩ n) (by
      rw [Shape.rowMajor_val_three, Shape.rowMajor_val_two]
      show (r.val / 2048 * 2048 + r.val % 2048) * 18944 + n.val = r.val * 18944 + n.val
      rw [Nat.div_add_mod']),
    ValueIdx.truncf_apply, dot_apply]
  refine Finset.sum_congr rfl fun k _ => Finset.sum_congr rfl fun p _ => ?_
  rw [acts_apply, weights_apply]

end Cert.ReferenceIdeal.Hand

end
-- ==== Proof.Equation.lean ====
/- The kernel's result is the reference's: the sum over the features is the sum over the packed words and their two places. -/
module

public import proofs.«01_k».proof.Proof.Ideal.Value
public import proofs.«01_k».proof.Proof.Reference.Value

@[expose] public section

set_option maxRecDepth 16384

noncomputable section

open Idealize.ShloMosaic hiding ix2 eq_ix2 ix3 eq_ix3 ix4 eq_ix4
open Idealize.ShloMosaic.ValueIdx
open Idealize.ShloMosaic.TcCoe

namespace Cert.Equation

open Cert.Hand Cert.KernelIdeal.Hand

/-- A sum over 3584 features is a sum over 1792 pairs of the sums over each pair. -/
theorem sum_pairs (f : Fin 3584 → EReal) :
    ∑ j : Fin 3584, f j = ∑ k : Fin 1792, ∑ p : Fin 2, f ⟨2 * k.val + p.val, by omega⟩ := by
  rw [← Fintype.sum_prod_type' (f := fun (k : Fin 1792) (p : Fin 2) => f ⟨2 * k.val + p.val, by omega⟩)]
  refine (Fintype.sum_equiv (finProdFinEquiv (m := 1792) (n := 2)) _ f fun x => ?_).symm
  refine congrArg f (Fin.ext ?_)
  show 2 * x.1.val + x.2.val = x.2.val + 2 * x.1.val
  omega

/-- On any arguments, the kernel's function of the activations laid out in rows is the reference's function. -/
theorem linear_eq (x : Vec Ideal Cert.KernelIdeal.S3x2048x3584 .bf16) (w : Vec Ideal Cert.KernelIdeal.S18944x1792 .i8)
    (tb : Vec Ideal Cert.KernelIdeal.S18944x16 .bf16) (h : Cert.KernelIdeal.S3x2048x3584.ShapeCasts Cert.KernelIdeal.S6144x3584) :
    Cert.ReferenceIdeal.Hand.value x w tb = linear (shapeCast Cert.KernelIdeal.S6144x3584 x h) w tb := by
  funext i
  obtain ⟨r, n, rfl⟩ : ∃ (r : Fin 6144) (n : Fin 18944), i = ix2 r n := ⟨i 0, i 1, eq_ix2 i⟩
  refine (Cert.ReferenceIdeal.Hand.value_apply x w tb r n).trans ?_
  unfold linear
  rw [sum_pairs]
  refine Finset.sum_congr rfl fun k _ => Finset.sum_congr rfl fun p _ => ?_
  refine congrArg₂ (· * ·) ?_ (congrArg tb (funext fun a => Fin.ext ?_))
  · refine (shapeCast_apply (s := Cert.KernelIdeal.S3x2048x3584) (t := Cert.KernelIdeal.S6144x3584) _ _ _ _ ?_).symm
    rw [Shape.rowMajor_val_three, Shape.rowMajor_val_two]
    show (r.val / 2048 * 2048 + r.val % 2048) * 3584 + (2 * k.val + p.val) = r.val * 3584 + (2 * k.val + p.val)
    rw [Nat.div_add_mod']
  · match a with
    | ⟨0, _⟩ => rfl
    | ⟨1, _⟩ =>
      have e : ∀ v, nibble p.val v = nibble (2 * k.val + p.val) v := fun v => by
        unfold nibble; rw [show (2 * k.val + p.val) % 2 = p.val % 2 by omega]
      refine (e _).trans (congrArg (nibble (2 * k.val + p.val)) (congrArg w (funext fun a => Fin.ext ?_)))
      match a with
      | ⟨0, _⟩ => rfl
      | ⟨1, _⟩ => show k.val = (2 * k.val + p.val) / 2; omega

/-- The activations the region finds: the argument, laid out in rows. -/
theorem acts_found (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = shapeCast Cert.KernelIdeal.S6144x3584 (m ((c.tc : Thread Cert.KernelIdeal.nD Cert.KernelIdeal.τ).loc Cert.KernelIdeal.main_arg0))
          Cert.KernelIdeal.Facts₀.shapeCasts_S3x2048x3584_S6144x3584 := by
  unfold Cert.KernelIdeal.Gen.V
  after_results
  rfl

/-- The kernel's result array holds the reference's function of the kernel's arguments. -/
theorem whole_eq (m : (ℓ : Loc Cert.KernelIdeal.nD Cert.KernelIdeal.τ Cert.KernelIdeal.sig) → Buf (Elt Ideal) ℓ) (c : Dev Cert.KernelIdeal.nD) :
    whole m c = Cert.ReferenceIdeal.Hand.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  unfold whole
  rw [acts_found, Cert.KernelIdeal.Gen.V_main_arg1, Cert.KernelIdeal.Gen.V_main_arg2]
  exact (linear_eq _ _ _ _).symm

/-- Where the two programs' arguments agree, the reference's result array holds what the kernel's does. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = whole m c := by
  rw [whole_eq, ← h0, ← h1, ← h2]
  exact Cert.ReferenceIdeal.Hand.result_eq m' c

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.Ideal.Value
public import proofs.«01_k».proof.Proof.Equation
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end and leaves its arguments as they were; it has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- At the ideal values, on equal arguments, the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Hand.whole m c, Cert.KernelIdeal.Hand.run m g,
    (θ_run Cert.ReferenceIdeal.defs _ _).mono
      (fun _ h c => ⟨(h c).1.trans (Cert.Equation.result_eq m m' c (hagree c).1 (hagree c).2.1 (hagree c).2.2), (h c).2⟩)
      (Cert.ReferenceIdeal.Value.run (F := Ideal) m' g')⟩

/-- The certificate. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  reference_frame,
  ⟨IdealRules.bf16_pair.statement _ _, IdealRules.bf16_pack.statement _⟩,
  algebraic⟩

end Cert.Proof

end
